-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graph_inputs [hPre_graph_inputs : Cert.Pre_graph_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_graph_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_graph_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_graph_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_graph_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_graph_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graph_inputs [hPre_graph_inputs : Cert.Pre_graph_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graph_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_graph_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_graph_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_graph_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_graph_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_graph_inputs [hKernelIdeal : Cert.KernelIdeal.Facts] [hPre_graph_inputs : Cert.Pre_graph_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graph_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_graph_inputs [hReferenceIdeal : Cert.ReferenceIdeal.Facts] [hPre_graph_inputs : Cert.Pre_graph_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graph_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_graph_inputs [hKernelIdeal : Cert.KernelIdeal.Facts] [hReferenceIdeal : Cert.ReferenceIdeal.Facts] [hPre_graph_inputs : Cert.Pre_graph_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graph_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_graph_inputs : Cert.Pre_graph_inputs.Facts),
    quiescent_Kernel (hKernel := hKernel)
    ∧ quiescent_KernelIdeal (hKernelIdeal := hKernelIdeal)
    ∧ quiescent_KernelIdeal_pre_graph_inputs (hKernelIdeal := hKernelIdeal) (hPre_graph_inputs := hPre_graph_inputs)
    ∧ quiescent_ReferenceIdeal (hReferenceIdeal := hReferenceIdeal)
    ∧ quiescent_ReferenceIdeal_pre_graph_inputs (hReferenceIdeal := hReferenceIdeal) (hPre_graph_inputs := hPre_graph_inputs)
    ∧ preserves_Kernel_KernelIdeal
    ∧ algebraic_KernelIdeal_ReferenceIdeal_pre_graph_inputs (hKernelIdeal := hKernelIdeal) (hReferenceIdeal := hReferenceIdeal) (hPre_graph_inputs := hPre_graph_inputs)
-- ==== Pre_graph_inputs.lean ====
abbrev S32x256x512 : Shape := ⟨3, ![32, 256, 512]⟩
abbrev S32x256x3 : Shape := ⟨3, ![32, 256, 3]⟩
abbrev S256x256 : Shape := ⟨2, ![256, 256]⟩
abbrev S32x16 : Shape := ⟨2, ![32, 16]⟩
abbrev S64x10 : Shape := ⟨2, ![64, 10]⟩
abbrev S64 : Shape := ⟨1, ![64]⟩
abbrev S128x64 : Shape := ⟨2, ![128, 64]⟩
abbrev S128 : Shape := ⟨1, ![128]⟩
abbrev S256x512 : Shape := ⟨2, ![256, 512]⟩
abbrev S256 : Shape := ⟨1, ![256]⟩
abbrev S128x256 : Shape := ⟨2, ![128, 256]⟩
abbrev S32x1x256x3 : Shape := ⟨4, ![32, 1, 256, 3]⟩
abbrev S32x256x1x3 : Shape := ⟨4, ![32, 256, 1, 3]⟩
abbrev S32x256x256x3 : Shape := ⟨4, ![32, 256, 256, 3]⟩
abbrev S_ : Shape := ⟨0, ![]⟩
abbrev S32x256x256 : Shape := ⟨3, ![32, 256, 256]⟩
abbrev S1x1x256 : Shape := ⟨3, ![1, 1, 256]⟩
abbrev S1x256x1 : Shape := ⟨3, ![1, 256, 1]⟩
abbrev S1x256x256 : Shape := ⟨3, ![1, 256, 256]⟩
abbrev S64x3 : Shape := ⟨2, ![64, 3]⟩
abbrev S32x256 : Shape := ⟨2, ![32, 256]⟩

class Facts : Prop where
  bcast_S32x256x3_S32x1x256x3_0_2_3 : S32x256x3.BroadcastsInDim S32x1x256x3 (![0, 2, 3] : Fin 3 → Fin S32x1x256x3.rank)
  bcast_S32x256x3_S32x256x1x3_0_1_3 : S32x256x3.BroadcastsInDim S32x256x1x3 (![0, 1, 3] : Fin 3 → Fin S32x256x1x3.rank)
  bcast_S32x1x256x3_S32x256x256x3_0_1_2_3 : S32x1x256x3.BroadcastsInDim S32x256x256x3 (![0, 1, 2, 3] : Fin 4 → Fin S32x256x256x3.rank)
  bcast_S32x256x1x3_S32x256x256x3_0_1_2_3 : S32x256x1x3.BroadcastsInDim S32x256x256x3 (![0, 1, 2, 3] : Fin 4 → Fin S32x256x256x3.rank)
  reducesTo_S32x256x256x3_S32x256x256_d3 : S32x256x256x3.ReducesTo [3] S32x256x256
  h_S_ : 0 < S_.numel
  bcast_S256_S1x1x256_2 : S256.BroadcastsInDim S1x1x256 (![2] : Fin 1 → Fin S1x1x256.rank)
  bcast_S256_S1x256x1_1 : S256.BroadcastsInDim S1x256x1 (![1] : Fin 1 → Fin S1x256x1.rank)
  bcast_S1x1x256_S1x256x256_0_1_2 : S1x1x256.BroadcastsInDim S1x256x256 (![0, 1, 2] : Fin 3 → Fin S1x256x256.rank)
  bcast_S1x256x1_S1x256x256_0_1_2 : S1x256x1.BroadcastsInDim S1x256x256 (![0, 1, 2] : Fin 3 → Fin S1x256x256.rank)
  bcast_S_S32x256x3 : S_.BroadcastsInDim S32x256x3 (![] : Fin 0 → Fin S32x256x3.rank)
  slices_S64x10_S64x3_0_6 : S64x10.Slices ![0, 6] S64x3
  bcast_S_S64x3 : S_.BroadcastsInDim S64x3 (![] : Fin 0 → Fin S64x3.rank)
  bcast_S_S256x256 : S_.BroadcastsInDim S256x256 (![] : Fin 0 → Fin S256x256.rank)
  bcast_S_S32x256x256 : S_.BroadcastsInDim S32x256x256 (![] : Fin 0 → Fin S32x256x256.rank)
  bcast_S1x256x256_S32x256x256_0_1_2 : S1x256x256.BroadcastsInDim S32x256x256 (![0, 1, 2] : Fin 3 → Fin S32x256x256.rank)
  reducesTo_S32x256x256_S32x256_d2 : S32x256x256.ReducesTo [2] S32x256
  bcast_S_S32x256 : S_.BroadcastsInDim S32x256 (![] : Fin 0 → Fin S32x256.rank)

variable [Facts]

def fn_where {F : FTy → Type} [FloatOps F] (arg0 : IVec S32x256x256 1) (arg1 : FVec F S_ .f32) (arg2 : FVec F S_ .f32) : FVec F S32x256x256 .f32 :=
  let v0 : FVec F S32x256x256 .f32 := broadcastInDim S32x256x256 ![] bcast_S_S32x256x256 arg1
  let v1 : FVec F S32x256x256 .f32 := broadcastInDim S32x256x256 ![] bcast_S_S32x256x256 arg2
  let v2 : FVec F S32x256x256 .f32 := select arg0 v0 v1
  v2

def fn_part1 {F : FTy → Type} [FloatOps F] (main_arg2 : IVec S256x256 32) (main_v6 : FVec F S32x256x256 .f32) (main_v13 : IVec S1x256x256 1) (main_v16 : IVec S32x256x3 1) (main_v20 : IVec S64x3 1) : IVec S32x256x3 1 × IVec S64x3 1 × IVec S256x256 1 × IVec S256x256 1 × IVec S32x256 1 :=
  let main_c : IVec S_ 32 := constantI S_ 32 0#32
  let main_v21 : IVec S256x256 32 := broadcastInDim S256x256 ![] bcast_S_S256x256 main_c
  let main_v22 : IVec S256x256 1 := cmpi .sge main_arg2 main_v21
  let main_c_2 : IVec S_ 32 := constantI S_ 32 16#32
  let main_v23 : IVec S256x256 32 := broadcastInDim S256x256 ![] bcast_S_S256x256 main_c_2
  let main_v24 : IVec S256x256 1 := cmpi .slt main_arg2 main_v23
  let main_cst_3 : FVec F S_ .f32 := constant S_ .f32 0x00000000#32
  let main_v25 : FVec F S32x256x256 .f32 := broadcastInDim S32x256x256 ![] bcast_S_S32x256x256 main_cst_3
  let main_v26 : IVec S32x256x256 1 := cmpf .oeq main_v6 main_v25
  let main_v27 : IVec S32x256x256 1 := broadcastInDim S32x256x256 ![0, 1, 2] bcast_S1x256x256_S32x256x256_0_1_2 main_v13
  let main_v28 : IVec S32x256x256 1 := andi main_v27 main_v26
  let main_cst_4 : FVec F S_ .f32 := constant S_ .f32 0x3F800000#32
  let main_cst_5 : FVec F S_ .f32 := constant S_ .f32 0x00000000#32
  let main_v29 : FVec F S32x256x256 .f32 := fn_where (F := F) main_v28 main_cst_4 main_cst_5
  let main_v30 : FVec F S32x256x256 .f32 := id main_v29
  let main_cst_6 : FVec F S_ .f32 := constant S_ .f32 0x00000000#32
  let main_v31 : FVec F S32x256 .f32 := (fun x v => Host.reduceAdd x v reducesTo_S32x256x256_S32x256_d2 h_S_) main_v30 main_cst_6
  let main_cst_7 : FVec F S_ .f32 := constant S_ .f32 0x41800000#32
  let main_v32 : FVec F S32x256 .f32 := broadcastInDim S32x256 ![] bcast_S_S32x256 main_cst_7
  let main_v33 : IVec S32x256 1 := cmpf .ole main_v31 main_v32
  (main_v16, main_v20, main_v22, main_v24, main_v33)

def fn {F : FTy → Type} [FloatOps F] (main_arg0 : FVec F S32x256x512 .f32) (main_arg1 : FVec F S32x256x3 .f32) (main_arg2 : IVec S256x256 32) (main_arg3 : FVec F S32x16 .f32) (main_arg4 : FVec F S32x256x512 .f32) (main_arg5 : FVec F S64x10 .f32) (main_arg6 : FVec F S64 .f32) (main_arg7 : FVec F S128x64 .f32) (main_arg8 : FVec F S128 .f32) (main_arg9 : FVec F S256x512 .f32) (main_arg10 : FVec F S256 .f32) (main_arg11 : FVec F S128x256 .f32) (main_arg12 : FVec F S128 .f32) (main_arg13 : FVec F S256x512 .f32) (main_arg14 : FVec F S256 .f32) (main_arg15 : FVec F S128x256 .f32) (main_arg16 : FVec F S128 .f32) (main_arg17 : FVec F S128 .f32) (main_arg18 : FVec F S128 .f32) : IVec S32x256x3 1 × IVec S64x3 1 × IVec S256x256 1 × IVec S256x256 1 × IVec S32x256 1 :=
  let main_v0 : FVec F S32x1x256x3 .f32 := broadcastInDim S32x1x256x3 ![0, 2, 3] bcast_S32x256x3_S32x1x256x3_0_2_3 main_arg1
  let main_v1 : FVec F S32x256x1x3 .f32 := broadcastInDim S32x256x1x3 ![0, 1, 3] bcast_S32x256x3_S32x256x1x3_0_1_3 main_arg1
  let main_v2 : FVec F S32x256x256x3 .f32 := broadcastInDim S32x256x256x3 ![0, 1, 2, 3] bcast_S32x1x256x3_S32x256x256x3_0_1_2_3 main_v0
  let main_v3 : FVec F S32x256x256x3 .f32 := broadcastInDim S32x256x256x3 ![0, 1, 2, 3] bcast_S32x256x1x3_S32x256x256x3_0_1_2_3 main_v1
  let main_v4 : FVec F S32x256x256x3 .f32 := subf main_v2 main_v3
  let main_v5 : FVec F S32x256x256x3 .f32 := mulf main_v4 main_v4
  let main_cst : FVec F S_ .f32 := constant S_ .f32 0x00000000#32
  let main_v6 : FVec F S32x256x256 .f32 := (fun x v => Host.reduceAdd x v reducesTo_S32x256x256x3_S32x256x256_d3 h_S_) main_v5 main_cst
  let main_v7 : IVec S256 32 := iotaInDim S256 32 0
  let main_v8 : IVec S1x1x256 32 := broadcastInDim S1x1x256 ![2] bcast_S256_S1x1x256_2 main_v7
  let main_v9 : IVec S256 32 := iotaInDim S256 32 0
  let main_v10 : IVec S1x256x1 32 := broadcastInDim S1x256x1 ![1] bcast_S256_S1x256x1_1 main_v9
  let main_v11 : IVec S1x256x256 32 := broadcastInDim S1x256x256 ![0, 1, 2] bcast_S1x1x256_S1x256x256_0_1_2 main_v8
  let main_v12 : IVec S1x256x256 32 := broadcastInDim S1x256x256 ![0, 1, 2] bcast_S1x256x1_S1x256x256_0_1_2 main_v10
  let main_v13 : IVec S1x256x256 1 := cmpi .slt main_v11 main_v12
  let main_v14 : FVec F S32x256x3 .f32 := Host.absf main_arg1
  let main_cst_0 : FVec F S_ .f32 := constant S_ .f32 0x7F800000#32
  let main_v15 : FVec F S32x256x3 .f32 := broadcastInDim S32x256x3 ![] bcast_S_S32x256x3 main_cst_0
  let main_v16 : IVec S32x256x3 1 := cmpf .olt main_v14 main_v15
  let main_v17 : FVec F S64x3 .f32 := (extractStridedSlice S64x3 ![0, 6] · slices_S64x10_S64x3_0_6) main_arg5
  let main_v18 : FVec F S64x3 .f32 := Host.absf main_v17
  let main_cst_1 : FVec F S_ .f32 := constant S_ .f32 0x7F800000#32
  let main_v19 : FVec F S64x3 .f32 := broadcastInDim S64x3 ![] bcast_S_S64x3 main_cst_1
  let main_v20 : IVec S64x3 1 := cmpf .olt main_v18 main_v19
  fn_part1 (F := F) main_arg2 main_v6 main_v13 main_v16 main_v20
-- ==== Kernel.lean ====
abbrev S32x256x512 : Shape := ⟨3, ![32, 256, 512]⟩
abbrev S32x256x3 : Shape := ⟨3, ![32, 256, 3]⟩
abbrev S256x256 : Shape := ⟨2, ![256, 256]⟩
abbrev S32x16 : Shape := ⟨2, ![32, 16]⟩
abbrev S64x10 : Shape := ⟨2, ![64, 10]⟩
abbrev S64 : Shape := ⟨1, ![64]⟩
abbrev S128x64 : Shape := ⟨2, ![128, 64]⟩
abbrev S128 : Shape := ⟨1, ![128]⟩
abbrev S256x512 : Shape := ⟨2, ![256, 512]⟩
abbrev S256 : Shape := ⟨1, ![256]⟩
abbrev S128x256 : Shape := ⟨2, ![128, 256]⟩
abbrev S_ : Shape := ⟨0, ![]⟩
abbrev S32x256x8 : Shape := ⟨3, ![32, 256, 8]⟩
abbrev S32x1x16 : Shape := ⟨3, ![32, 1, 16]⟩
abbrev S10x64 : Shape := ⟨2, ![10, 64]⟩
abbrev S3x64 : Shape := ⟨2, ![3, 64]⟩
abbrev S8x64 : Shape := ⟨2, ![8, 64]⟩
abbrev S1x64 : Shape := ⟨2, ![1, 64]⟩
abbrev S32x8x256 : Shape := ⟨3, ![32, 8, 256]⟩
abbrev S64x128 : Shape := ⟨2, ![64, 128]⟩
abbrev S1x128 : Shape := ⟨2, ![1, 128]⟩
abbrev S512x256 : Shape := ⟨2, ![512, 256]⟩
abbrev S1x256 : Shape := ⟨2, ![1, 256]⟩
abbrev S256x128 : Shape := ⟨2, ![256, 128]⟩
abbrev S32x256x128 : Shape := ⟨3, ![32, 256, 128]⟩
abbrev S1x256x512 : Shape := ⟨3, ![1, 256, 512]⟩
abbrev S1x256x8 : Shape := ⟨3, ![1, 256, 8]⟩
abbrev S1x8x256 : Shape := ⟨3, ![1, 8, 256]⟩
abbrev S1x1x16 : Shape := ⟨3, ![1, 1, 16]⟩
abbrev S1x256x128 : Shape := ⟨3, ![1, 256, 128]⟩
abbrev S256x192 : Shape := ⟨2, ![256, 192]⟩
abbrev S256x8 : Shape := ⟨2, ![256, 8]⟩
abbrev S256x64 : Shape := ⟨2, ![256, 64]⟩
abbrev S256x1 : Shape := ⟨2, ![256, 1]⟩
abbrev S1x1x256 : Shape := ⟨3, ![1, 1, 256]⟩
abbrev S1x1x1 : Shape := ⟨3, ![1, 1, 1]⟩

abbrev nBuf : Space → Nat
  | .hbm => 52
  | .vmem => 31
  | .smem => 0
  | _ => 0

abbrev bufTy : (tb : Table) → Fin (tcTables nBuf tb) → BufTy
  | .hbm, ⟨0, _⟩ => ⟨S32x256x512, .f32⟩
  | .hbm, ⟨1, _⟩ => ⟨S32x256x3, .f32⟩
  | .hbm, ⟨2, _⟩ => ⟨S256x256, .i32⟩
  | .hbm, ⟨3, _⟩ => ⟨S32x16, .f32⟩
  | .hbm, ⟨4, _⟩ => ⟨S32x256x512, .f32⟩
  | .hbm, ⟨5, _⟩ => ⟨S64x10, .f32⟩
  | .hbm, ⟨6, _⟩ => ⟨S64, .f32⟩
  | .hbm, ⟨7, _⟩ => ⟨S128x64, .f32⟩
  | .hbm, ⟨8, _⟩ => ⟨S128, .f32⟩
  | .hbm, ⟨9, _⟩ => ⟨S256x512, .f32⟩
  | .hbm, ⟨10, _⟩ => ⟨S256, .f32⟩
  | .hbm, ⟨11, _⟩ => ⟨S128x256, .f32⟩
  | .hbm, ⟨12, _⟩ => ⟨S128, .f32⟩
  | .hbm, ⟨13, _⟩ => ⟨S256x512, .f32⟩
  | .hbm, ⟨14, _⟩ => ⟨S256, .f32⟩
  | .hbm, ⟨15, _⟩ => ⟨S128x256, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S_, .i32⟩
  | .hbm, ⟨20, _⟩ => ⟨S_, .f32⟩
  | .hbm, ⟨21, _⟩ => ⟨S32x256x8, .f32⟩
  | .hbm, ⟨22, _⟩ => ⟨S32x1x16, .f32⟩
  | .hbm, ⟨23, _⟩ => ⟨S10x64, .f32⟩
  | .hbm, ⟨24, _⟩ => ⟨S3x64, .f32⟩
  | .hbm, ⟨25, _⟩ => ⟨S3x64, .f32⟩
  | .hbm, ⟨26, _⟩ => ⟨S3x64, .f32⟩
  | .hbm, ⟨27, _⟩ => ⟨S_, .i32⟩
  | .hbm, ⟨28, _⟩ => ⟨S_, .f32⟩
  | .hbm, ⟨29, _⟩ => ⟨S8x64, .f32⟩
  | .hbm, ⟨30, _⟩ => ⟨S3x64, .f32⟩
  | .hbm, ⟨31, _⟩ => ⟨S3x64, .f32⟩
  | .hbm, ⟨32, _⟩ => ⟨S3x64, .f32⟩
  | .hbm, ⟨33, _⟩ => ⟨S_, .i32⟩
  | .hbm, ⟨34, _⟩ => ⟨S_, .f32⟩
  | .hbm, ⟨35, _⟩ => ⟨S8x64, .f32⟩
  | .hbm, ⟨36, _⟩ => ⟨S1x64, .f32⟩
  | .hbm, ⟨37, _⟩ => ⟨S32x8x256, .f32⟩
  | .hbm, ⟨38, _⟩ => ⟨S1x64, .f32⟩
  | .hbm, ⟨39, _⟩ => ⟨S64x128, .f32⟩
  | .hbm, ⟨40, _⟩ => ⟨S1x128, .f32⟩
  | .hbm, ⟨41, _⟩ => ⟨S512x256, .f32⟩
  | .hbm, ⟨42, _⟩ => ⟨S1x256, .f32⟩
  | .hbm, ⟨43, _⟩ => ⟨S256x128, .f32⟩
  | .hbm, ⟨44, _⟩ => ⟨S1x128, .f32⟩
  | .hbm, ⟨45, _⟩ => ⟨S512x256, .f32⟩
  | .hbm, ⟨46, _⟩ => ⟨S1x256, .f32⟩
  | .hbm, ⟨47, _⟩ => ⟨S256x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S32x256x128, .f32⟩
  | .local _ .vmem, ⟨0, _⟩ => ⟨S1x256x512, .f32⟩
  | .local _ .vmem, ⟨1, _⟩ => ⟨S1x256x512, .f32⟩
  | .local _ .vmem, ⟨2, _⟩ => ⟨S1x256x8, .f32⟩
  | .local _ .vmem, ⟨3, _⟩ => ⟨S1x256x8, .f32⟩
  | .local _ .vmem, ⟨4, _⟩ => ⟨S1x8x256, .f32⟩
  | .local _ .vmem, ⟨5, _⟩ => ⟨S1x8x256, .f32⟩
  | .local _ .vmem, ⟨6, _⟩ => ⟨S256x256, .i32⟩
  | .local _ .vmem, ⟨7, _⟩ => ⟨S1x1x16, .f32⟩
  | .local _ .vmem, ⟨8, _⟩ => ⟨S1x1x16, .f32⟩
  | .local _ .vmem, ⟨9, _⟩ => ⟨S1x256x512, .f32⟩
  | .local _ .vmem, ⟨10, _⟩ => ⟨S1x256x512, .f32⟩
  | .local _ .vmem, ⟨11, _⟩ => ⟨S8x64, .f32⟩
  | .local _ .vmem, ⟨12, _⟩ => ⟨S8x64, .f32⟩
  | .local _ .vmem, ⟨13, _⟩ => ⟨S1x64, .f32⟩
  | .local _ .vmem, ⟨14, _⟩ => ⟨S1x64, .f32⟩
  | .local _ .vmem, ⟨15, _⟩ => ⟨S64x128, .f32⟩
  | .local _ .vmem, ⟨16, _⟩ => ⟨S1x128, .f32⟩
  | .local _ .vmem, ⟨17, _⟩ => ⟨S512x256, .f32⟩
  | .local _ .vmem, ⟨18, _⟩ => ⟨S1x256, .f32⟩
  | .local _ .vmem, ⟨19, _⟩ => ⟨S256x128, .f32⟩
  | .local _ .vmem, ⟨20, _⟩ => ⟨S1x128, .f32⟩
  | .local _ .vmem, ⟨21, _⟩ => ⟨S512x256, .f32⟩
  | .local _ .vmem, ⟨22, _⟩ => ⟨S1x256, .f32⟩
  | .local _ .vmem, ⟨23, _⟩ => ⟨S256x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x256x128, .f32⟩
  | .local _ .vmem, ⟨28, _⟩ => ⟨S1x256x128, .f32⟩
  | .local _ .vmem, ⟨29, _⟩ => ⟨S256x192, .f32⟩
  | .local _ .vmem, ⟨30, _⟩ => ⟨S256x128, .f32⟩
  | _, _ => ⟨S32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_c : Ref sig .tc := ⟨.hbm, 19, rfl⟩
abbrev main_call0_call0_v0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_0 : Ref sig .tc := ⟨.hbm, 27, rfl⟩
abbrev main_call0_call1_v0 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_c_1 : Ref sig .tc := ⟨.hbm, 33, rfl⟩
abbrev main_call0_call2_v0 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_call0_v17 : Ref sig .tc := ⟨.hbm, 42, rfl⟩
abbrev main_call0_v18 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_call0_v22 : Ref sig .tc := ⟨.hbm, 47, rfl⟩
abbrev main_call0_v23 : Ref sig .tc := ⟨.hbm, 48, rfl⟩
abbrev main_call0_v24 : Ref sig .tc := ⟨.hbm, 49, rfl⟩
abbrev main_call0_v25 : Ref sig .tc := ⟨.hbm, 50, rfl⟩
abbrev main_v0 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg22_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem22_1 : DmaSem sig := 28

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v102 : BitVec 32 := Scalar.addi c0_i32 c8_i32
  let c1_i32 : BitVec 32 := 1#32
  ⟨c0_i32, v102, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1x256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceIdeal.lean ====
abbrev S32x256x512 : Shape := ⟨3, ![32, 256, 512]⟩
abbrev S32x256x3 : Shape := ⟨3, ![32, 256, 3]⟩
abbrev S256x256 : Shape := ⟨2, ![256, 256]⟩
abbrev S32x16 : Shape := ⟨2, ![32, 16]⟩
abbrev S64x10 : Shape := ⟨2, ![64, 10]⟩
abbrev S64 : Shape := ⟨1, ![64]⟩
abbrev S128x64 : Shape := ⟨2, ![128, 64]⟩
abbrev S128 : Shape := ⟨1, ![128]⟩
abbrev S256x512 : Shape := ⟨2, ![256, 512]⟩
abbrev S256 : Shape := ⟨1, ![256]⟩
abbrev S128x256 : Shape := ⟨2, ![128, 256]⟩
abbrev S512x256 : Shape := ⟨2, ![512, 256]⟩
abbrev S32x256x256 : Shape := ⟨3, ![32, 256, 256]⟩
abbrev S1x1x256 : Shape := ⟨3, ![1, 1, 256]⟩
abbrev S_ : Shape := ⟨0, ![]⟩
abbrev S256x128 : Shape := ⟨2, ![256, 128]⟩
abbrev S32x256x128 : Shape := ⟨3, ![32, 256, 128]⟩
abbrev S1x1x128 : Shape := ⟨3, ![1, 1, 128]⟩
abbrev S32x1x256x3 : Shape := ⟨4, ![32, 1, 256, 3]⟩
abbrev S32x256x1x3 : Shape := ⟨4, ![32, 256, 1, 3]⟩
abbrev S32x256x256x3 : Shape := ⟨4, ![32, 256, 256, 3]⟩
abbrev S32x256x17 : Shape := ⟨3, ![32, 256, 17]⟩
abbrev S32 : Shape := ⟨1, ![32]⟩
abbrev S32x1x1 : Shape := ⟨3, ![32, 1, 1]⟩
abbrev S256x256x1 : Shape := ⟨3, ![256, 256, 1]⟩
abbrev S32x256x17x1 : Shape := ⟨4, ![32, 256, 17, 1]⟩
abbrev S1 : Shape := ⟨1, ![1]⟩
abbrev S1x1x1x1 : Shape := ⟨4, ![1, 1, 1, 1]⟩
abbrev S32x256x17x2 : Shape := ⟨4, ![32, 256, 17, 2]⟩
abbrev S32x256x17x3 : Shape := ⟨4, ![32, 256, 17, 3]⟩
abbrev S32x256x17x10 : Shape := ⟨4, ![32, 256, 17, 10]⟩
abbrev S10x64 : Shape := ⟨2, ![10, 64]⟩
abbrev S32x256x17x64 : Shape := ⟨4, ![32, 256, 17, 64]⟩
abbrev S1x1x1x64 : Shape := ⟨4, ![1, 1, 1, 64]⟩
abbrev S64x128 : Shape := ⟨2, ![64, 128]⟩
abbrev S32x256x17x128 : Shape := ⟨4, ![32, 256, 17, 128]⟩
abbrev S1x1x1x128 : Shape := ⟨4, ![1, 1, 1, 128]⟩
abbrev S32x256 : Shape := ⟨2, ![32, 256]⟩
abbrev S32x256x1 : Shape := ⟨3, ![32, 256, 1]⟩

abbrev nBuf : Space → Nat
  | .hbm => 216
  | .vmem => 0
  | .smem => 0
  | _ => 0

abbrev hbmTy0_0 (i : Nat) : BufTy := match i % 128 with
  | 0 => ⟨S32x256x512, .f32⟩
  | 1 => ⟨S32x256x3, .f32⟩
  | 2 => ⟨S256x256, .i32⟩
  | 3 => ⟨S32x16, .f32⟩
  | 4 => ⟨S32x256x512, .f32⟩
  | 5 => ⟨S64x10, .f32⟩
  | 6 => ⟨S64, .f32⟩
  | 7 => ⟨S128x64, .f32⟩
  | 8 => ⟨S128, .f32⟩
  | 9 => ⟨S256x512, .f32⟩
  | 10 => ⟨S256, .f32⟩
  | 11 => ⟨S128x256, .f32⟩
  | 12 => ⟨S128, .f32⟩
  | 13 => ⟨S256x512, .f32⟩
  | 14 => ⟨S256, .f32⟩
  | 15 => ⟨S128x256, .f32⟩
  | 16 => ⟨S128, .f32⟩
  | 17 => ⟨S128, .f32⟩
  | 18 => ⟨S128, .f32⟩
  | 19 => ⟨S512x256, .f32⟩
  | 20 => ⟨S32x256x256, .f32⟩
  | 21 => ⟨S1x1x256, .f32⟩
  | 22 => ⟨S32x256x256, .f32⟩
  | 23 => ⟨S32x256x256, .f32⟩
  | 24 => ⟨S_, .f32⟩
  | 25 => ⟨S32x256x256, .f32⟩
  | 26 => ⟨S32x256x256, .i1⟩
  | 27 => ⟨S_, .f32⟩
  | 28 => ⟨S32x256x256, .f32⟩
  | 29 => ⟨S32x256x256, .f32⟩
  | 30 => ⟨S32x256x256, .f32⟩
  | 31 => ⟨S256x128, .f32⟩
  | 32 => ⟨S32x256x128, .f32⟩
  | 33 => ⟨S1x1x128, .f32⟩
  | 34 => ⟨S32x256x128, .f32⟩
  | 35 => ⟨S32x256x128, .f32⟩
  | 36 => ⟨S512x256, .f32⟩
  | 37 => ⟨S32x256x256, .f32⟩
  | 38 => ⟨S1x1x256, .f32⟩
  | 39 => ⟨S32x256x256, .f32⟩
  | 40 => ⟨S32x256x256, .f32⟩
  | 41 => ⟨S_, .f32⟩
  | 42 => ⟨S32x256x256, .f32⟩
  | 43 => ⟨S32x256x256, .i1⟩
  | 44 => ⟨S_, .f32⟩
  | 45 => ⟨S32x256x256, .f32⟩
  | 46 => ⟨S32x256x256, .f32⟩
  | 47 => ⟨S32x256x256, .f32⟩
  | 48 => ⟨S256x128, .f32⟩
  | 49 => ⟨S32x256x128, .f32⟩
  | 50 => ⟨S1x1x128, .f32⟩
  | 51 => ⟨S32x256x128, .f32⟩
  | 52 => ⟨S32x256x128, .f32⟩
  | 53 => ⟨S32x1x256x3, .f32⟩
  | 54 => ⟨S32x256x1x3, .f32⟩
  | 55 => ⟨S32x256x256x3, .f32⟩
  | 56 => ⟨S32x256x256x3, .f32⟩
  | 57 => ⟨S32x256x256x3, .f32⟩
  | 58 => ⟨S32x256x256x3, .f32⟩
  | 59 => ⟨S_, .f32⟩
  | 60 => ⟨S32x256x256, .f32⟩
  | 61 => ⟨S32x256x256, .f32⟩
  | 62 => ⟨S32x256x17, .f32⟩
  | 63 => ⟨S32x256x17, .i32⟩
  | 64 => ⟨S32, .i32⟩
  | 65 => ⟨S32x1x1, .i32⟩
  | 66 => ⟨S32x256x17, .i32⟩
  | 67 => ⟨S_, .i32⟩
  | 68 => ⟨S256x256, .i32⟩
  | 69 => ⟨S256x256, .i1⟩
  | 70 => ⟨S_, .i32⟩
  | 71 => ⟨S256x256, .i32⟩
  | 72 => ⟨S256x256, .i32⟩
  | 73 => ⟨S256x256, .i32⟩
  | 74 => ⟨S256x256x1, .i32⟩
  | 75 => ⟨S32x256x256, .f32⟩
  | 76 => ⟨S_, .i32⟩
  | 77 => ⟨S32x256x17, .i32⟩
  | 78 => ⟨S32x256x17, .i1⟩
  | 79 => ⟨S_, .i32⟩
  | 80 => ⟨S32x256x17, .i32⟩
  | 81 => ⟨S32x256x17, .i32⟩
  | 82 => ⟨S32x256x17, .i32⟩
  | 83 => ⟨S32x256x17x1, .i32⟩
  | 84 => ⟨S1, .i32⟩
  | 85 => ⟨S_, .i32⟩
  | 86 => ⟨S32x256x17x1, .i32⟩
  | 87 => ⟨S32x256x17x1, .i1⟩
  | 88 => ⟨S1x1x1x1, .i32⟩
  | 89 => ⟨S32x256x17x1, .i32⟩
  | 90 => ⟨S32x256x17x1, .i1⟩
  | 91 => ⟨S32x256x17x1, .i1⟩
  | 92 => ⟨S_, .i1⟩
  | 93 => ⟨S32x256x17, .i1⟩
  | 94 => ⟨S32x256x17, .f32⟩
  | 95 => ⟨S_, .f32⟩
  | 96 => ⟨S32x256x17, .f32⟩
  | 97 => ⟨S32x256x17, .f32⟩
  | 98 => ⟨S32x256x17x1, .f32⟩
  | 99 => ⟨S_, .i32⟩
  | 100 => ⟨S32x256x17, .i32⟩
  | 101 => ⟨S32x256x17, .i1⟩
  | 102 => ⟨S_, .i32⟩
  | 103 => ⟨S32x256x17, .i32⟩
  | 104 => ⟨S32x256x17, .i32⟩
  | 105 => ⟨S32x256x17, .i32⟩
  | 106 => ⟨S_, .i32⟩
  | 107 => ⟨S32x256x17, .i32⟩
  | 108 => ⟨S32x256x17, .i1⟩
  | 109 => ⟨S_, .i32⟩
  | 110 => ⟨S32x256x17, .i32⟩
  | 111 => ⟨S32x256x17, .i32⟩
  | 112 => ⟨S32x256x17, .i32⟩
  | 113 => ⟨S32x256x17x1, .i32⟩
  | 114 => ⟨S32x256x17x1, .i32⟩
  | 115 => ⟨S32x256x17x2, .i32⟩
  | 116 => ⟨S32x256x17x3, .f32⟩
  | 117 => ⟨S32x256x1x3, .f32⟩
  | 118 => ⟨S32x256x17x3, .f32⟩
  | 119 => ⟨S32x256x17x3, .f32⟩
  | 120 => ⟨S32x256x17x3, .f32⟩
  | 121 => ⟨S_, .f32⟩
  | 122 => ⟨S32x256x17, .f32⟩
  | 123 => ⟨S32x256x17x1, .f32⟩
  | 124 => ⟨S32x256x17x1, .f32⟩
  | 125 => ⟨S32x256x17x10, .f32⟩
  | 126 => ⟨S10x64, .f32⟩
  | 127 => ⟨S32x256x17x64, .f32⟩
  | _ => ⟨S32x256x512, .f32⟩

abbrev hbmTy0_1 (i : Nat) : BufTy := match i % 128 with
  | 0 => ⟨S1x1x1x64, .f32⟩
  | 1 => ⟨S32x256x17x64, .f32⟩
  | 2 => ⟨S32x256x17x64, .f32⟩
  | 3 => ⟨S_, .f32⟩
  | 4 => ⟨S32x256x17x64, .f32⟩
  | 5 => ⟨S32x256x17x64, .i1⟩
  | 6 => ⟨S_, .f32⟩
  | 7 => ⟨S32x256x17x64, .f32⟩
  | 8 => ⟨S32x256x17x64, .f32⟩
  | 9 => ⟨S32x256x17x64, .f32⟩
  | 10 => ⟨S64x128, .f32⟩
  | 11 => ⟨S32x256x17x128, .f32⟩
  | 12 => ⟨S1x1x1x128, .f32⟩
  | 13 => ⟨S32x256x17x128, .f32⟩
  | 14 => ⟨S32x256x17x128, .f32⟩
  | 15 => ⟨S_, .i32⟩
  | 16 => ⟨S32x256x17, .i32⟩
  | 17 => ⟨S32x256x17, .i1⟩
  | 18 => ⟨S_, .i32⟩
  | 19 => ⟨S32x256x17, .i32⟩
  | 20 => ⟨S32x256x17, .i32⟩
  | 21 => ⟨S32x256x17, .i32⟩
  | 22 => ⟨S_, .i32⟩
  | 23 => ⟨S32x256x17, .i32⟩
  | 24 => ⟨S32x256x17, .i1⟩
  | 25 => ⟨S_, .i32⟩
  | 26 => ⟨S32x256x17, .i32⟩
  | 27 => ⟨S32x256x17, .i32⟩
  | 28 => ⟨S32x256x17, .i32⟩
  | 29 => ⟨S32x256x17x1, .i32⟩
  | 30 => ⟨S32x256x17x1, .i32⟩
  | 31 => ⟨S32x256x17x2, .i32⟩
  | 32 => ⟨S32x256x17x128, .f32⟩
  | 33 => ⟨S32x256x17x128, .f32⟩
  | 34 => ⟨S_, .i32⟩
  | 35 => ⟨S32x256x17, .i32⟩
  | 36 => ⟨S32x256x17, .i1⟩
  | 37 => ⟨S_, .i32⟩
  | 38 => ⟨S32x256x17, .i32⟩
  | 39 => ⟨S32x256x17, .i32⟩
  | 40 => ⟨S32x256x17, .i32⟩
  | 41 => ⟨S_, .i32⟩
  | 42 => ⟨S32x256x17, .i32⟩
  | 43 => ⟨S32x256x17, .i1⟩
  | 44 => ⟨S_, .i32⟩
  | 45 => ⟨S32x256x17, .i32⟩
  | 46 => ⟨S32x256x17, .i32⟩
  | 47 => ⟨S32x256x17, .i32⟩
  | 48 => ⟨S32x256x17x1, .i32⟩
  | 49 => ⟨S32x256x17x1, .i32⟩
  | 50 => ⟨S32x256x17x2, .i32⟩
  | 51 => ⟨S32x256x17x128, .f32⟩
  | 52 => ⟨S32x256x17x128, .f32⟩
  | 53 => ⟨S32x256x17x128, .f32⟩
  | 54 => ⟨S32x256x17x128, .f32⟩
  | 55 => ⟨S_, .f32⟩
  | 56 => ⟨S32x256x128, .f32⟩
  | 57 => ⟨S32x256x128, .f32⟩
  | 58 => ⟨S32x256x128, .f32⟩
  | 59 => ⟨S_, .f32⟩
  | 60 => ⟨S32x256, .f32⟩
  | 61 => ⟨S32x256x1, .f32⟩
  | 62 => ⟨S_, .f32⟩
  | 63 => ⟨S32x256x1, .f32⟩
  | 64 => ⟨S32x256x1, .f32⟩
  | 65 => ⟨S32x256x128, .f32⟩
  | 66 => ⟨S32x256x128, .f32⟩
  | 67 => ⟨S32x256x128, .f32⟩
  | 68 => ⟨S_, .f32⟩
  | 69 => ⟨S32x256, .f32⟩
  | 70 => ⟨S32x256x1, .f32⟩
  | 71 => ⟨S_, .f32⟩
  | 72 => ⟨S32x256x1, .f32⟩
  | 73 => ⟨S32x256x1, .f32⟩
  | 74 => ⟨S32x256x128, .f32⟩
  | 75 => ⟨S32x256x128, .f32⟩
  | 76 => ⟨S_, .f32⟩
  | 77 => ⟨S32x256x1, .f32⟩
  | 78 => ⟨S32x256x1, .f32⟩
  | 79 => ⟨S32x256x1, .f32⟩
  | 80 => ⟨S32x256x128, .f32⟩
  | 81 => ⟨S32x256x128, .f32⟩
  | 82 => ⟨S1x1x128, .f32⟩
  | 83 => ⟨S32x256x128, .f32⟩
  | 84 => ⟨S32x256x128, .f32⟩
  | 85 => ⟨S1x1x128, .f32⟩
  | 86 => ⟨S32x256x128, .f32⟩
  | 87 => ⟨S32x256x128, .f32⟩
  | _ => ⟨S32x256x512, .f32⟩

abbrev hbmTy (i : Nat) : BufTy := match i / 128 with
  | 0 => hbmTy0_0 i
  | 1 => hbmTy0_1 i
  | _ => ⟨S32x256x512, .f32⟩

abbrev bufTy : (tb : Table) → Fin (tcTables nBuf tb) → BufTy
  | .hbm, ⟨i, _⟩ => hbmTy i
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_3 : Ref sig .tc := ⟨.hbm, 59, rfl⟩
abbrev main_v36 : Ref sig .tc := ⟨.hbm, 60, rfl⟩
abbrev main_v37 : Ref sig .tc := ⟨.hbm, 61, rfl⟩
abbrev main_values : Ref sig .tc := ⟨.hbm, 62, rfl⟩
abbrev main_indices : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c : Ref sig .tc := ⟨.hbm, 67, rfl⟩
abbrev main_v41 : Ref sig .tc := ⟨.hbm, 68, rfl⟩
abbrev main_v42 : Ref sig .tc := ⟨.hbm, 69, rfl⟩
abbrev main_c_4 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_cst : Ref sig .tc := ⟨.hbm, 95, rfl⟩
abbrev main_call2_v14 : Ref sig .tc := ⟨.hbm, 96, rfl⟩
abbrev main_v48 : Ref sig .tc := ⟨.hbm, 97, rfl⟩
abbrev main_v49 : Ref sig .tc := ⟨.hbm, 98, rfl⟩
abbrev main_c_5 : Ref sig .tc := ⟨.hbm, 99, rfl⟩
abbrev main_v50 : Ref sig .tc := ⟨.hbm, 100, rfl⟩
abbrev main_v51 : Ref sig .tc := ⟨.hbm, 101, rfl⟩
abbrev main_c_6 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_c_7 : Ref sig .tc := ⟨.hbm, 106, rfl⟩
abbrev main_v55 : Ref sig .tc := ⟨.hbm, 107, rfl⟩
abbrev main_v56 : Ref sig .tc := ⟨.hbm, 108, rfl⟩
abbrev main_c_8 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_cst_9 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_cst_10 : Ref sig .tc := ⟨.hbm, 131, rfl⟩
abbrev main_v77 : Ref sig .tc := ⟨.hbm, 132, rfl⟩
abbrev main_v78 : Ref sig .tc := ⟨.hbm, 133, rfl⟩
abbrev main_cst_11 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_c_12 : Ref sig .tc := ⟨.hbm, 143, rfl⟩
abbrev main_v87 : Ref sig .tc := ⟨.hbm, 144, rfl⟩
abbrev main_v88 : Ref sig .tc := ⟨.hbm, 145, rfl⟩
abbrev main_c_13 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_c_14 : Ref sig .tc := ⟨.hbm, 150, rfl⟩
abbrev main_v92 : Ref sig .tc := ⟨.hbm, 151, rfl⟩
abbrev main_v93 : Ref sig .tc := ⟨.hbm, 152, rfl⟩
abbrev main_c_15 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_c_16 : Ref sig .tc := ⟨.hbm, 162, rfl⟩
abbrev main_v102 : Ref sig .tc := ⟨.hbm, 163, rfl⟩
abbrev main_v103 : Ref sig .tc := ⟨.hbm, 164, rfl⟩
abbrev main_c_17 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_c_18 : Ref sig .tc := ⟨.hbm, 169, rfl⟩
abbrev main_v107 : Ref sig .tc := ⟨.hbm, 170, rfl⟩
abbrev main_v108 : Ref sig .tc := ⟨.hbm, 171, rfl⟩
abbrev main_c_19 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_cst_20 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_cst_21 : Ref sig .tc := ⟨.hbm, 187, rfl⟩
abbrev main_v122 : Ref sig .tc := ⟨.hbm, 188, rfl⟩
abbrev main_v123 : Ref sig .tc := ⟨.hbm, 189, rfl⟩
abbrev main_cst_22 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_cst_23 : Ref sig .tc := ⟨.hbm, 196, rfl⟩
abbrev main_v129 : Ref sig .tc := ⟨.hbm, 197, rfl⟩
abbrev main_v130 : Ref sig .tc := ⟨.hbm, 198, rfl⟩
abbrev main_cst_24 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_cst_25 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩

abbrev nD : Nat := 1
abbrev τ : Topo := Topo.v7x

variable {F : FTy → Type} [FloatOps F]
-- ==== Proof.KernelIdeal.Staging.lean ====
/- The buffers one grid point of the kernel works in: each window's staging buffer at a point, the two scratch
   buffers, and the invariant between points in terms of them. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- One staging buffer of output window 22, through which its contents are stated (`View.read_writes_of_cover`: the
    choice does not matter). -/
abbrev VO0_22 : View sig .tc .vmem S1x256x128 .f32 := (Memref.whole cc0_stg22_0 : Memref sig .tc .vmem S1x256x128 .f32).view
/-- Each window's current staging memref at point `t`, spelled as the pipeline passes it (`bodyAt0`), and its wholeness. -/
abbrev ms0_0 (t : Fin cfg0.N) : Memref sig .tc .vmem S1x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S512x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x128 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x128 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x256x128 .f32 := win0_22.stage (cfg0.slots t 22)
abbrev hs0_22 (t : Fin cfg0.N) : (ms0_22 t).IsWhole := hstage0_22 ((cfg0.slots t 22).cast nbuf0_22)
/-- The scratch operands: whole scoped buffers of the kernel's own, passed beside the windows. -/
abbrev scM0_0 : Memref sig .tc .vmem S256x192 .f32 := Memref.whole cc0_scratch0
abbrev scM0_1 : Memref sig .tc .vmem S256x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.KernelIdeal.RunA.lean ====
/- One whole run of the kernel's body over its staging buffers: it terminates, gives every input buffer back as it
   was, and leaves the output and the two scratch buffers written by the pieces it names. -/
module

public import proofs.«01_k».proof.Proof.KernelIdeal.Staging

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x256x512 .f32) (harg1 : arg1.IsWhole) (arg2 : Memref sig .tc .vmem S1x256x8 .f32) (harg2 : arg2.IsWhole) (arg3 : Memref sig .tc .vmem S1x8x256 .f32) (harg3 : arg3.IsWhole) (arg4 : Memref sig .tc .vmem S256x256 .i32) (harg4 : arg4.IsWhole) (arg5 : Memref sig .tc .vmem S1x1x16 .f32) (harg5 : arg5.IsWhole) (arg6 : Memref sig .tc .vmem S1x256x512 .f32) (harg6 : arg6.IsWhole) (arg7 : Memref sig .tc .vmem S8x64 .f32) (harg7 : arg7.IsWhole) (arg8 : Memref sig .tc .vmem S8x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S512x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S512x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x256x128 .f32) (harg23 : arg23.IsWhole) (arg24 : Memref sig .tc .vmem S256x192 .f32) (harg24 : arg24.IsWhole) (arg25 : Memref sig .tc .vmem S256x128 .f32) (harg25 : arg25.IsWhole)
    (x0 : Vec F S1x256x512 .f32) (x1 : Vec F S1x256x8 .f32) (x2 : Vec F S1x8x256 .f32) (x3 : Vec F S256x256 .i32) (x4 : Vec F S1x1x16 .f32) (x5 : Vec F S1x256x512 .f32) (x6 : Vec F S8x64 .f32) (x7 : Vec F S8x64 .f32) (x8 : Vec F S1x64 .f32) (x9 : Vec F S1x64 .f32) (x10 : Vec F S64x128 .f32) (x11 : Vec F S1x128 .f32) (x12 : Vec F S512x256 .f32) (x13 : Vec F S1x256 .f32) (x14 : Vec F S256x128 .f32) (x15 : Vec F S1x128 .f32) (x16 : Vec F S512x256 .f32) (x17 : Vec F S1x256 .f32) (x18 : Vec F S256x128 .f32) (x19 : Vec F S1x128 .f32) (x20 : Vec F S1x128 .f32) (x21 : Vec F S1x128 .f32) :
    Σ' (L22 : List (View.Piece (Elt F) S1x256x128 .f32)), Σ' (LT0 : List (View.Piece (Elt F) S256x192 .f32)), { LT1 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LT0) ∗ (∃ f, arg25.view.loc (c : Thread nD τ) ↦[arg25.view.set]{fullShare} arg25.view.writes (Elt F) f LT1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, fun E K => ?run⟩
  case run =>
    simp only [cc0__body_eq_skeleton]; unfold cc0__body_skel
    simp only [k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [HS0]; · iexists _; iexact HS0
    iexists _; iexact HS1

end Cert.KernelIdeal.Gen

end
-- ==== Proof.KernelIdeal.Body.lean ====
/- The launch: what the output buffer holds after each grid point, the proof data of the pipeline, the obligation of
   the body at a point, the run of the whole program and the frame that follows. -/
module

public import proofs.«01_k».proof.Proof.KernelIdeal.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 22 tile its block (1 store of `S1x256x128`, checked by the kernel's evaluation: Lib/Ring.lean `Piece.tiledL`, linear in the pieces, through a loop's `@[irreducible]` trip theorem too), so they cover it. -/
theorem cover0_A_22 (c : Dev nD) (i : grid0.Coords) (arg1 : Memref sig .tc .vmem S1x256x512 .f32) (harg1 : arg1.IsWhole) (arg2 : Memref sig .tc .vmem S1x256x8 .f32) (harg2 : arg2.IsWhole) (arg3 : Memref sig .tc .vmem S1x8x256 .f32) (harg3 : arg3.IsWhole) (arg4 : Memref sig .tc .vmem S256x256 .i32) (harg4 : arg4.IsWhole) (arg5 : Memref sig .tc .vmem S1x1x16 .f32) (harg5 : arg5.IsWhole) (arg6 : Memref sig .tc .vmem S1x256x512 .f32) (harg6 : arg6.IsWhole) (arg7 : Memref sig .tc .vmem S8x64 .f32) (harg7 : arg7.IsWhole) (arg8 : Memref sig .tc .vmem S8x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S512x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S512x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x256x128 .f32) (harg23 : arg23.IsWhole) (arg24 : Memref sig .tc .vmem S256x192 .f32) (harg24 : arg24.IsWhole) (arg25 : Memref sig .tc .vmem S256x128 .f32) (harg25 : arg25.IsWhole)
    (x0 : Vec F S1x256x512 .f32) (x1 : Vec F S1x256x8 .f32) (x2 : Vec F S1x8x256 .f32) (x3 : Vec F S256x256 .i32) (x4 : Vec F S1x1x16 .f32) (x5 : Vec F S1x256x512 .f32) (x6 : Vec F S8x64 .f32) (x7 : Vec F S8x64 .f32) (x8 : Vec F S1x64 .f32) (x9 : Vec F S1x64 .f32) (x10 : Vec F S64x128 .f32) (x11 : Vec F S1x128 .f32) (x12 : Vec F S512x256 .f32) (x13 : Vec F S1x256 .f32) (x14 : Vec F S256x128 .f32) (x15 : Vec F S1x128 .f32) (x16 : Vec F S512x256 .f32) (x17 : Vec F S1x256 .f32) (x18 : Vec F S256x128 .f32) (x19 : Vec F S1x128 .f32) (x20 : Vec F S1x128 .f32) (x21 : Vec F S1x128 .f32) (y : S1x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21).1 S1x256x128.size (by sl_kernel_rfl) y

/-- What the run leaves in output 22's staging buffer: its pieces read back over junk. -/
def out0_A_22 (c : Dev nD) (i : grid0.Coords) (arg1 : Memref sig .tc .vmem S1x256x512 .f32) (harg1 : arg1.IsWhole) (arg2 : Memref sig .tc .vmem S1x256x8 .f32) (harg2 : arg2.IsWhole) (arg3 : Memref sig .tc .vmem S1x8x256 .f32) (harg3 : arg3.IsWhole) (arg4 : Memref sig .tc .vmem S256x256 .i32) (harg4 : arg4.IsWhole) (arg5 : Memref sig .tc .vmem S1x1x16 .f32) (harg5 : arg5.IsWhole) (arg6 : Memref sig .tc .vmem S1x256x512 .f32) (harg6 : arg6.IsWhole) (arg7 : Memref sig .tc .vmem S8x64 .f32) (harg7 : arg7.IsWhole) (arg8 : Memref sig .tc .vmem S8x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S512x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S512x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x256x128 .f32) (harg23 : arg23.IsWhole) (arg24 : Memref sig .tc .vmem S256x192 .f32) (harg24 : arg24.IsWhole) (arg25 : Memref sig .tc .vmem S256x128 .f32) (harg25 : arg25.IsWhole)
    (x0 : Vec F S1x256x512 .f32) (x1 : Vec F S1x256x8 .f32) (x2 : Vec F S1x8x256 .f32) (x3 : Vec F S256x256 .i32) (x4 : Vec F S1x1x16 .f32) (x5 : Vec F S1x256x512 .f32) (x6 : Vec F S8x64 .f32) (x7 : Vec F S8x64 .f32) (x8 : Vec F S1x64 .f32) (x9 : Vec F S1x64 .f32) (x10 : Vec F S64x128 .f32) (x11 : Vec F S1x128 .f32) (x12 : Vec F S512x256 .f32) (x13 : Vec F S1x256 .f32) (x14 : Vec F S256x128 .f32) (x15 : Vec F S1x128 .f32) (x16 : Vec F S512x256 .f32) (x17 : Vec F S1x256 .f32) (x18 : Vec F S256x128 .f32) (x19 : Vec F S1x128 .f32) (x20 : Vec F S1x128 .f32) (x21 : Vec F S1x128 .f32) : Vec F S1x256x128 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21).1)

/-! ## What the outputs hold after each point -/

/-- What the outputs' staging buffers hold after the body at point `t`: the run's contents at
    the point's memrefs and input blocks. -/
def outsAt0 (c : Dev nD) (t : Fin cfg0.N) : Vec F S1x256x128 .f32 :=
  out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t)
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.castSucc = Pipeline.ΦA spec0 c from rfl, PhiA0_eq]
  unfold outsAt0
  unfold out0_A_22
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [HS0]; · iexact HS0
  isplitl [HS1]; · iexact HS1
  iintro ⟨H0, H1, H2, H3, H4, H5, H6, H7, H8, H9, H10, H11, H12, H13, H14, H15, H16, H17, H18, H19, H20, H21, ⟨%e22, H22⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.KernelIdeal.Gen

end
-- ==== Proof.KernelIdeal.Blocks.lean ====
/- The final output array block by block: block `t` is what grid point `t` left in the output buffer. -/
module

public import proofs.«01_k».proof.Proof.KernelIdeal.Body
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 22's array: the run's contents for that window after the body (`Gen.outsAt0`), read through the window's block. -/
theorem flushed22 (c : Dev nD) (t : Fin cfg0.N) :
    (dats m 0 c).flushed 22 t = (cfg0.win 22).cut (grid0.coords t) (outsAt0 m c t) := by
  show (cfg0.win 22).cut (grid0.coords t) ((dats m 0 c).after 22 t) = _
  rw [after0_22]

/-- … so at a point where case A runs, what its write-back would write is that case's NAMED TERM for the window (`Gen.out0_A_22`: the pieces
    its run found, read back) at the point's memrefs and input blocks, and for an output the case reads back what the point before left (`Gen.outsAt0` at `t - 1`) — the kernel's one case, `Gen.outsAt0` by definition. -/
theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) := by
  simp only [flushed22, outsAt0]

/-- The index map sends distinct grid points to distinct block indices (decided over the 32 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S32x256x128.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v0) = (dats m 0 c).arrAt 22 cfg0.N :=
  (h c).1 22

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 3 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 5 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 5).trans (((dats m 0 c).arrAt_in 5 rfl _).trans ((A_eq m c 5).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c⟩)
    (run_main m ρ)

end Cert.KernelIdeal.Value

end
-- ==== Proof.Math.Formula.lean ====
/- The pieces both programs are made of, on plain functions: the leaky rectifier, a network with one hidden layer, the
   normalization of a row of 128 numbers. -/
module

public import Idealize.ShloMosaic.PureOps.Ideal.Laws

@[expose] public section

noncomputable section

namespace Fusion

open Idealize.ShloMosaic

/-- The slope of the leaky rectifier below zero. -/
def slope : EReal := Ideal.ofBits .f32 0x3C23D70A#32

/-- The leaky rectifier. -/
def leaky (x : EReal) : EReal := if 0 < x then x else slope * x

/-- The hidden layer of a network. -/
def hidden {n h : ℕ} (x : Fin n → EReal) (w1 : Fin n → Fin h → EReal) (b1 : Fin h → EReal) (k : Fin h) : EReal :=
  ∑ a, x a * w1 a k + b1 k

/-- The second layer of a network, from the hidden layer before the rectifier. -/
def output {h m : ℕ} (z : Fin h → EReal) (w2 : Fin h → Fin m → EReal) (b2 : Fin m → EReal) (c : Fin m) : EReal :=
  ∑ k, leaky (z k) * w2 k c + b2 c

/-- The mean of 128 numbers. -/
def mean (f : Fin 128 → EReal) : EReal := Ideal.div (∑ c, f c) (Ideal.ofBits .f32 0x43000000#32)

/-- The normalization of a row: the mean taken off, divided by the root of the mean square plus a small number, scaled
    and shifted. -/
def normalize (f g b : Fin 128 → EReal) (c : Fin 128) : EReal :=
  Ideal.div (f c - mean f)
    (Ideal.sqrt (mean (fun x => (f x - mean f) * (f x - mean f)) + Ideal.ofBits .f32 0x3727C5AC#32)) * g c + b c

end Fusion

end
-- ==== Proof.Math.Selection.lean ====
/- The nearest nodes of a row, as sets of columns: what "the first columns by distance, ties to the lower column" means,
   that such a set is determined by its size, that repeated picking of the least remaining column builds it, and that the
   first entries of a stable sort by distance are it. -/
module

public import Idealize.ShloMosaic.Lib.SortFacts
public import Idealize.ShloMosaic.Lib.SortPrefix
public import Mathlib.Data.EReal.Basic
public import Mathlib.Data.Finset.Card
public import Mathlib.Algebra.BigOperators.Fin

@[expose] public section

namespace Nearest

open Idealize.ShloMosaic

variable {n : ℕ}

/-- Column `a` comes before column `b`: it is nearer, or as near and further left. -/
def Before (D : Fin n → EReal) (a b : Fin n) : Prop := D a < D b ∨ (D a = D b ∧ a < b)

theorem Before.asymm {D : Fin n → EReal} {a b : Fin n} (h : Before D a b) (h' : Before D b a) : False := by
  rcases h with h | ⟨h, h1⟩ <;> rcases h' with h' | ⟨h', h1'⟩
  · exact lt_asymm h h'
  · exact absurd h' h.ne'
  · exact absurd h h'.ne'
  · exact lt_asymm h1 h1'

/-- `P` is the centre column `i` together with columns that all come before every column left out. -/
def Low (D : Fin n → EReal) (i : Fin n) (P : Finset (Fin n)) : Prop :=
  i ∈ P ∧ ∀ p ∈ P, p ≠ i → ∀ q, q ∉ P → Before D p q

/-- The centre column alone is such a set. -/
theorem Low.singleton (D : Fin n → EReal) (i : Fin n) : Low D i {i} :=
  ⟨Finset.mem_singleton_self i, fun _ hp hne => absurd (Finset.mem_singleton.mp hp) hne⟩

/-- Two such sets of the same size are the same set. -/
theorem Low.unique {D : Fin n → EReal} {i : Fin n} {P Q : Finset (Fin n)} (hP : Low D i P) (hQ : Low D i Q)
    (hc : P.card = Q.card) : P = Q := by
  by_contra hne
  have h1 : ¬ P ⊆ Q := fun h => hne (Finset.eq_of_subset_of_card_le h hc.ge)
  have h2 : ¬ Q ⊆ P := fun h => hne (Finset.eq_of_subset_of_card_le h hc.le).symm
  obtain ⟨a, haP, haQ⟩ := Finset.not_subset.mp h1
  obtain ⟨b, hbQ, hbP⟩ := Finset.not_subset.mp h2
  have hai : a ≠ i := fun e => haQ (e ▸ hQ.1)
  have hbi : b ≠ i := fun e => hbP (e ▸ hP.1)
  exact (hP.2 a haP hai b hbP).asymm (hQ.2 b hbQ hbi a haQ)

/-- Adding the least of the columns left out gives such a set again. -/
theorem Low.insert {D : Fin n → EReal} {i p : Fin n} {P : Finset (Fin n)} (hP : Low D i P) (_hp : p ∉ P)
    (hmin : ∀ q, q ∉ P → q ≠ p → Before D p q) : Low D i (insert p P) := by
  refine ⟨Finset.mem_insert_of_mem hP.1, fun a ha hai q hq => ?_⟩
  rw [Finset.mem_insert, not_or] at hq
  rcases Finset.mem_insert.mp ha with rfl | ha
  · exact hmin q hq.2 hq.1
  · exact hP.2 a ha hai q hq.2

/-- The distances with the columns of `P` taken out (set to `+∞`). -/
noncomputable def rest (D : Fin n → EReal) (P : Finset (Fin n)) (j : Fin n) : EReal := if j ∈ P then ⊤ else D j

/-- Taking out one more column. -/
theorem rest_insert (D : Fin n → EReal) (P : Finset (Fin n)) (p j : Fin n) :
    rest D (insert p P) j = if j = p then ⊤ else rest D P j := by
  unfold rest
  by_cases h : j = p
  · simp [h]
  · simp [h]

/-- The least column at which the remaining distances reach their minimum `m` is the least of the columns left out. -/
theorem exists_pick {D : Fin n → EReal} (hD : ∀ j, D j < ⊤) {P : Finset (Fin n)} (hP : P.card < n) {m : EReal}
    (hle : ∀ j, m ≤ rest D P j) (hmem : ∃ j, rest D P j = m) :
    ∃ p, p ∉ P ∧ D p = m ∧ (∀ q, q ∉ P → q ≠ p → Before D p q) ∧ rest D P p ≤ m ∧
      ∀ j, rest D P j ≤ m → p ≤ j := by
  classical
  have hne : ∃ q, q ∉ P := by
    by_contra h
    push Not at h
    have : P = Finset.univ := Finset.eq_univ_iff_forall.mpr h
    rw [this, Finset.card_univ, Fintype.card_fin] at hP
    exact lt_irrefl _ hP
  obtain ⟨q₀, hq₀⟩ := hne
  have hmtop : m < ⊤ := lt_of_le_of_lt (hle q₀) (by simp only [rest, if_neg hq₀]; exact hD q₀)
  let C : Finset (Fin n) := Finset.univ.filter fun j => rest D P j ≤ m
  have hC : C.Nonempty := by
    obtain ⟨j, hj⟩ := hmem
    exact ⟨j, Finset.mem_filter.mpr ⟨Finset.mem_univ _, hj.le⟩⟩
  have hpC := Finset.min'_mem C hC
  set p := C.min' hC with hp
  have hpm : rest D P p ≤ m := (Finset.mem_filter.mp hpC).2
  have hpP : p ∉ P := by
    intro h
    rw [rest, if_pos h] at hpm
    exact absurd hmtop (not_lt.mpr hpm)
  have hleast : ∀ j, rest D P j ≤ m → p ≤ j := fun j hj =>
    Finset.min'_le C j (Finset.mem_filter.mpr ⟨Finset.mem_univ _, hj⟩)
  have hDp : D p = m := by
    have := le_antisymm hpm (hle p)
    rwa [rest, if_neg hpP] at this
  refine ⟨p, hpP, hDp, fun q hq hqp => ?_, hpm, hleast⟩
  have hDq : m ≤ D q := by
    have := hle q
    rwa [rest, if_neg hq] at this
  rcases lt_or_eq_of_le hDq with h | h
  · exact Or.inl (hDp ▸ h)
  · refine Or.inr ⟨hDp.trans h, lt_of_le_of_ne (hleast q ?_) (Ne.symm hqp)⟩
    rw [rest, if_neg hq]
    exact h.ge

/-! ## The stable sort -/

/-- The order "nearer, or as near and further left" as a test. -/
noncomputable def bef (D : Fin n → EReal) (k k' : Fin n) : Bool :=
  decide (D k < D k') || (decide (D k = D k') && decide (k < k'))

theorem bef_strict (D : Fin n → EReal) : StrictTotalBefore (bef D) :=
  StrictTotalBefore.of_key_then_position (fun a b : EReal => decide (a < b)) D (fun a => by simp)
    (fun a b c h h' => by simp only [decide_eq_true_eq] at h h' ⊢; exact h.trans h')
    (fun a b => by simp only [decide_eq_true_eq]; exact lt_trichotomy a b)

/-- A stable sort by distance alone of columns listed from left to right is the sort by the full order. -/
theorem stableSort_eq (D : Fin n → EReal) (l : List (Fin n)) (hl : l.Pairwise (· < ·)) :
    stableSort (fun a b => decide (D a < D b)) l = stableSort (bef D) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have : decide (b < a) = false := decide_eq_false (not_lt.mpr hab.le)
    simp [bef, this]

/-- The columns a stable sort by distance puts at its first `k` places. -/
noncomputable def firsts (D : Fin n → EReal) (k : ℕ) (hk : k ≤ n) : Finset (Fin n) :=
  Finset.univ.image fun r : Fin k => sortedFrom (fun a b => decide (D a < D b)) (r.castLE hk)

theorem firsts_card (D : Fin n → EReal) (k : ℕ) (hk : k ≤ n) : (firsts D k hk).card = k := by
  unfold firsts
  rw [Finset.card_image_of_injective, Finset.card_univ, Fintype.card_fin]
  exact (sortedFrom_injective _).comp (Fin.castLE_injective hk)

/-- Every column among the first `k` comes before every other column. -/
theorem firsts_before (D : Fin n → EReal) (k : ℕ) (hk : k ≤ n) {p q : Fin n} (hp : p ∈ firsts D k hk)
    (hq : q ∉ firsts D k hk) : Before D p q := by
  classical
  obtain ⟨r, -, hr⟩ := Finset.mem_image.mp hp
  obtain ⟨s, hs⟩ := sortedFrom_surjective (fun a b => decide (D a < D b)) q
  have hsk : k ≤ s.val := by
    by_contra h
    push Not at h
    exact hq (Finset.mem_image.mpr ⟨⟨s.val, h⟩, Finset.mem_univ _, by rw [← hs]; rfl⟩)
  have hE : sortedFrom (fun a b => decide (D a < D b)) = sortedFrom (bef D) := by
    funext j
    unfold sortedFrom sortPositions
    rw [List.get_of_eq (stableSort_eq D (List.finRange n) (List.pairwise_lt_finRange n))]
    rfl
  have hB := bef_strict D
  have hno := sortedFrom_noInversion (bef D) (bef D) (fun a b h => hB.asymm a b h) (fun _ _ h => h) hB.negTrans
    (r.castLE hk) s (by rw [Fin.lt_def, Fin.val_castLE]; exact lt_of_lt_of_le r.isLt hsk)
  rw [← hE, hr, hs] at hno
  have hpq : p ≠ q := fun e => hq (e ▸ hp)
  have h := (hB.total p q hpq).resolve_right (by rw [hno]; decide)
  simp only [bef, Bool.or_eq_true, Bool.and_eq_true, decide_eq_true_eq] at h
  exact h

/-- If the centre is at distance zero, distances are not negative, and fewer than `k` columns to the left of the centre
    are at distance zero, then the first `k` columns hold the centre, and they are a set as above. -/
theorem firsts_low (D : Fin n → EReal) (k : ℕ) (hk : k ≤ n) (i : Fin n) (h0 : D i = 0)
    (hpos : ∀ j, 0 ≤ D j) (hcount : (Finset.univ.filter fun j => j < i ∧ D j ≤ 0).card < k) : Low D i (firsts D k hk) := by
  classical
  have hi : i ∈ firsts D k hk := by
    by_contra h
    have hsub : firsts D k hk ⊆ Finset.univ.filter fun j => j < i ∧ D j ≤ 0 := by
      intro p hp
      have hb := firsts_before D k hk hp h
      rw [Finset.mem_filter]
      refine ⟨Finset.mem_univ _, ?_⟩
      rcases hb with hb | ⟨hb, hb'⟩
      · exact absurd (hpos p) (not_le.mpr (h0 ▸ hb))
      · exact ⟨hb', by rw [hb, h0]⟩
    have := Finset.card_le_card hsub
    rw [firsts_card] at this
    omega
  exact ⟨hi, fun p hp _ q hq => firsts_before D k hk hp hq⟩

/-- A sum over the first `k` places of the sort is the sum over the set of columns at those places. -/
theorem sum_firsts (D : Fin n → EReal) (k : ℕ) (hk : k ≤ n) (g : Fin n → EReal) :
    ∑ r : Fin k, g (sortedFrom (fun a b => decide (D a < D b)) (r.castLE hk)) = ∑ p ∈ firsts D k hk, g p := by
  unfold firsts
  rw [Finset.sum_image fun a _ b _ h => (Fin.castLE_injective hk) (sortedFrom_injective _ h)]

end Nearest
-- ==== Proof.Math.Layer.lean ====
/- The layer as plain mathematics: the inputs as functions, the networks of the nodes and of the pairs, the neighbours (the
   17 nearest, by distance and then by number), the weighted sum over the neighbours and its normalization. -/
module

public import proofs.«01_k».proof.Proof.Math.Formula
public import proofs.«01_k».proof.Proof.Math.Selection

@[expose] public section

noncomputable section

namespace Fusion

open Idealize.ShloMosaic

/-- The inputs of the layer. -/
structure Inputs where
  feat : Fin 32 → Fin 256 → Fin 512 → EReal
  coord : Fin 32 → Fin 256 → Fin 3 → EReal
  relation : Fin 256 → Fin 256 → BitVec 32
  weight : Fin 32 → Fin 16 → EReal
  fuse : Fin 32 → Fin 256 → Fin 512 → EReal
  wr1 : Fin 64 → Fin 10 → EReal
  br1 : Fin 64 → EReal
  wr2 : Fin 128 → Fin 64 → EReal
  br2 : Fin 128 → EReal
  wf1 : Fin 256 → Fin 512 → EReal
  bf1 : Fin 256 → EReal
  wf2 : Fin 128 → Fin 256 → EReal
  bf2 : Fin 128 → EReal
  wg1 : Fin 256 → Fin 512 → EReal
  bg1 : Fin 256 → EReal
  wg2 : Fin 128 → Fin 256 → EReal
  bg2 : Fin 128 → EReal
  gamma : Fin 128 → EReal
  beta : Fin 128 → EReal

namespace Inputs

variable (A : Inputs)

/-- The features of a node after its network. -/
def fe (s : Fin 32) (i : Fin 256) (c : Fin 128) : EReal :=
  output (hidden (A.feat s i) (fun a k => A.wf1 k a) A.bf1) (fun k c => A.wf2 c k) A.bf2 c

/-- The fused features of a node after their network. -/
def ef (s : Fin 32) (i : Fin 256) (c : Fin 128) : EReal :=
  output (hidden (A.fuse s i) (fun a k => A.wg1 k a) A.bg1) (fun k c => A.wg2 c k) A.bg2 c

/-- The squared distance from node `i` to node `j`. -/
def dist (s : Fin 32) (i j : Fin 256) : EReal :=
  ∑ k, (A.coord s j k - A.coord s i k) * (A.coord s j k - A.coord s i k)

/-- What the pair network is given: both nodes' coordinates, their difference, the distance. -/
def pair (s : Fin 32) (i j : Fin 256) : Fin 10 → EReal :=
  ![A.coord s j 0, A.coord s j 1, A.coord s j 2, A.coord s i 0, A.coord s i 1, A.coord s i 2,
    A.coord s j 0 - A.coord s i 0, A.coord s j 1 - A.coord s i 1, A.coord s j 2 - A.coord s i 2, Ideal.sqrt (A.dist s i j)]

/-- The hidden layer of the pair network. -/
def inner (s : Fin 32) (i j : Fin 256) (k : Fin 64) : EReal := hidden (A.pair s i j) (fun a k => A.wr1 k a) A.br1 k

/-- The pair network. -/
def rel (s : Fin 32) (i j : Fin 256) (c : Fin 128) : EReal := output (A.inner s i j) (fun k c => A.wr2 c k) A.br2 c

/-- The weight of the edge from `i` to `j`: the sentence's weight of the edge's relation. -/
def edge (s : Fin 32) (i j : Fin 256) : EReal :=
  A.weight s ⟨(A.relation i j).toNat % 16, Nat.mod_lt _ (by norm_num)⟩

/-- The sum over the neighbours, and the node's own features. -/
def residual (s : Fin 32) (P : Finset (Fin 256)) (i : Fin 256) (c : Fin 128) : EReal :=
  ∑ j ∈ P, (A.fe s j c * A.rel s i j c + A.edge s i j * A.ef s j c) + A.fe s i c + A.ef s i c

/-- The neighbours of a node: the 17 nearest, of equals the lower numbered. -/
def near (s : Fin 32) (i : Fin 256) : Finset (Fin 256) := Nearest.firsts (A.dist s i) 17 (by norm_num)

/-- The layer's result. -/
def value (s : Fin 32) (i : Fin 256) (c : Fin 128) : EReal :=
  normalize (A.residual s (A.near s i) i) A.gamma A.beta c

/-- A real times a sum with a real. -/
theorem mul_add_real (x c : ℝ) (a : EReal) : (x : EReal) * (a + (c : EReal)) = (x : EReal) * a + ((x * c : ℝ) : EReal) := by
  induction a with
  | coe a => exact_mod_cast mul_add x a c
  | bot =>
    rw [EReal.bot_add]
    rcases lt_trichotomy x 0 with hx | rfl | hx
    · rw [EReal.coe_mul_bot_of_neg hx, EReal.top_add_coe]
    · simp
    · rw [EReal.coe_mul_bot_of_pos hx, EReal.bot_add]
  | top =>
    rw [EReal.top_add_coe]
    rcases lt_trichotomy x 0 with hx | rfl | hx
    · rw [EReal.coe_mul_top_of_neg hx, EReal.bot_add]
    · simp
    · rw [EReal.coe_mul_top_of_pos hx, EReal.top_add_coe]

/-- A real times a difference with a real. -/
theorem mul_sub_real (x c : ℝ) (a : EReal) : (x : EReal) * (a - (c : EReal)) = (x : EReal) * a + ((x * -c : ℝ) : EReal) := by
  rw [sub_eq_add_neg, ← EReal.coe_neg, mul_add_real]

/-- The order in which the shares are added does not matter. -/
theorem regroup {p0 p1 p2 q0 q1 q2 t b : EReal} {d0 d1 d2 e0 e1 e2 f0 f1 f2 : ℝ} (h : d0 + d1 + d2 = e0 + e1 + e2 + (f0 + f1 + f2)) :
    p0 + p1 + p2 + q0 + q1 + q2 + (d0 : EReal) + (d1 : EReal) + (d2 : EReal) + t + b
      = p0 + (e0 : EReal) + (p1 + (e1 : EReal)) + (p2 + (e2 : EReal)) + t
        + (q0 + (f0 : EReal) + (q1 + (f1 : EReal)) + (q2 + (f2 : EReal)) + b) := by
  have h' : (d0 : EReal) + (d1 : EReal) + (d2 : EReal) = (e0 : EReal) + (e1 : EReal) + (e2 : EReal) + ((f0 : EReal) + (f1 : EReal) + (f2 : EReal)) := by
    exact_mod_cast h
  have l : p0 + p1 + p2 + q0 + q1 + q2 + (d0 : EReal) + (d1 : EReal) + (d2 : EReal) + t + b
      = p0 + p1 + p2 + q0 + q1 + q2 + ((d0 : EReal) + (d1 : EReal) + (d2 : EReal)) + t + b := by ac_rfl
  rw [l, h']
  ac_rfl

/-- What is asked of the inputs: the coordinates and the columns of the pair network's first matrix that the differences of
    coordinates meet, its seventh to ninth, are finite, the relations are numbers below 16, and no node has 17 lower-numbered ones at its own place. -/
structure Good : Prop where
  coord : ∃ u : Fin 32 → Fin 256 → Fin 3 → ℝ, ∀ s i k, A.coord s i k = ((u s i k : ℝ) : EReal)
  wr1 : ∃ v : Fin 64 → Fin 3 → ℝ, ∀ k x, A.wr1 k ⟨6 + x.val, by omega⟩ = ((v k x : ℝ) : EReal)
  relation : ∀ i j, (A.relation i j).toNat < 16
  few : ∀ s i, (Finset.univ.filter fun j => j < i ∧ A.dist s i j ≤ 0).card < 17

variable {A}

/-- The first layer of the pair network is a neighbour's share, the distance's share and the node's own share. -/
theorem inner_split (h : A.Good) (s : Fin 32) (i j : Fin 256) (k : Fin 64) :
    A.inner s i j k =
      ∑ x : Fin 3, A.coord s j x * (A.wr1 k ⟨x.val, by omega⟩ + A.wr1 k ⟨6 + x.val, by omega⟩)
        + Ideal.sqrt (A.dist s i j) * A.wr1 k 9
        + (∑ x : Fin 3, A.coord s i x * (A.wr1 k ⟨3 + x.val, by omega⟩ - A.wr1 k ⟨6 + x.val, by omega⟩) + A.br1 k) := by
  obtain ⟨u, hu⟩ := h.coord
  obtain ⟨v, hv⟩ := h.wr1
  unfold inner hidden pair
  generalize Ideal.sqrt (A.dist s i j) = r
  have w6 : A.wr1 k 6 = _ := hv k 0
  have w7 : A.wr1 k 7 = _ := hv k 1
  have w8 : A.wr1 k 8 = _ := hv k 2
  have e : ∀ f : Fin 10 → EReal, ∑ a, f a = f 0 + f 1 + f 2 + f 3 + f 4 + f 5 + f 6 + f 7 + f 8 + f 9 := fun f => by
    simp [Fin.sum_univ_succ, add_assoc]
  rw [e]
  simp only [Fin.sum_univ_three]
  show A.coord s j 0 * A.wr1 k 0 + A.coord s j 1 * A.wr1 k 1 + A.coord s j 2 * A.wr1 k 2
    + A.coord s i 0 * A.wr1 k 3 + A.coord s i 1 * A.wr1 k 4 + A.coord s i 2 * A.wr1 k 5
    + (A.coord s j 0 - A.coord s i 0) * A.wr1 k 6 + (A.coord s j 1 - A.coord s i 1) * A.wr1 k 7
    + (A.coord s j 2 - A.coord s i 2) * A.wr1 k 8 + r * A.wr1 k 9 + A.br1 k
    = A.coord s j 0 * (A.wr1 k 0 + A.wr1 k 6) + A.coord s j 1 * (A.wr1 k 1 + A.wr1 k 7) + A.coord s j 2 * (A.wr1 k 2 + A.wr1 k 8)
      + r * A.wr1 k 9
      + (A.coord s i 0 * (A.wr1 k 3 - A.wr1 k 6) + A.coord s i 1 * (A.wr1 k 4 - A.wr1 k 7) + A.coord s i 2 * (A.wr1 k 5 - A.wr1 k 8)
        + A.br1 k)
  generalize r * A.wr1 k 9 = t
  generalize A.br1 k = b
  generalize A.wr1 k 0 = a0
  generalize A.wr1 k 1 = a1
  generalize A.wr1 k 2 = a2
  generalize A.wr1 k 3 = b0
  generalize A.wr1 k 4 = b1
  generalize A.wr1 k 5 = b2
  simp only [w6, w7, w8, hu, mul_add_real, mul_sub_real]
  simp only [← EReal.coe_mul, ← EReal.coe_sub]
  exact regroup (by ring)

/-- The distance is a real square sum. -/
theorem dist_real (h : A.Good) (s : Fin 32) : ∃ d : Fin 256 → Fin 256 → ℝ, (∀ i j, A.dist s i j = ((d i j : ℝ) : EReal)) ∧
    (∀ i, d i i = 0) ∧ ∀ i j, 0 ≤ d i j := by
  obtain ⟨u, hu⟩ := h.coord
  refine ⟨fun i j => ∑ k, (u s j k - u s i k) * (u s j k - u s i k), fun i j => ?_, fun i => ?_, fun i j => ?_⟩
  · unfold dist
    simp only [hu, Fin.sum_univ_three, ← EReal.coe_mul, ← EReal.coe_add, ← EReal.coe_sub]
  · simp
  · exact Finset.sum_nonneg fun k _ => mul_self_nonneg _

/-- The neighbours are the only 17 nodes with the node itself among them and no other node before one of them. -/
theorem near_unique (h : A.Good) (s : Fin 32) (i : Fin 256) (P : Finset (Fin 256)) (hP : Nearest.Low (A.dist s i) i P)
    (hc : P.card = 17) : P = A.near s i := by
  obtain ⟨d, hd, h0, hp⟩ := dist_real h s
  refine Nearest.Low.unique hP (Nearest.firsts_low _ 17 _ i ?_ (fun j => ?_) (h.few s i)) ?_
  · rw [hd, h0]; rfl
  · rw [hd]; exact_mod_cast hp i j
  · exact hc.trans (Nearest.firsts_card _ 17 _).symm

end Inputs

end Fusion

end
-- ==== Proof.Math.Condition.lean ====
/- What the condition on the inputs says: finite coordinates, finite weights of the differences of coordinates,
   relations below 16, and at most 16 lower-numbered nodes at a node's own place. -/
module

public import proofs.«01_k».proof.Defs
public import proofs.«01_k».proof.Proof.Math.Layer
public import Idealize.ShloMosaic.Lib.Pointwise

@[expose] public section

set_option maxRecDepth 16384

noncomputable section

namespace Cert.Pre_graph_inputs

open Idealize.ShloMosaic Fusion

/-- The relations between shapes that the condition states. -/
instance shapes : Facts where
  bcast_S32x256x3_S32x1x256x3_0_2_3 := by decide
  bcast_S32x256x3_S32x256x1x3_0_1_3 := by decide
  bcast_S32x1x256x3_S32x256x256x3_0_1_2_3 := by decide
  bcast_S32x256x1x3_S32x256x256x3_0_1_2_3 := by decide
  reducesTo_S32x256x256x3_S32x256x256_d3 := by decide
  h_S_ := by decide
  bcast_S256_S1x1x256_2 := by decide
  bcast_S256_S1x256x1_1 := by decide
  bcast_S1x1x256_S1x256x256_0_1_2 := by decide
  bcast_S1x256x1_S1x256x256_0_1_2 := by decide
  bcast_S_S32x256x3 := by decide
  slices_S64x10_S64x3_0_6 := by decide
  bcast_S_S64x3 := by decide
  bcast_S_S256x256 := by decide
  bcast_S_S32x256x256 := by decide
  bcast_S1x256x256_S32x256x256_0_1_2 := by decide
  reducesTo_S32x256x256_S32x256_d2 := by decide
  bcast_S_S32x256 := by decide

/-- The squared distance between two nodes of a sentence. -/
abbrev place (x1 : FVec Ideal S32x256x3 .f32) (s : Fin 32) (i j : Fin 256) : EReal :=
  ∑ k : Fin 3, (x1 (ix3 s j k) - x1 (ix3 s i k)) * (x1 (ix3 s j k) - x1 (ix3 s i k))

/-- A value whose magnitude lies below infinity is a real number. -/
theorem real_of_lt (x : EReal) (h : BitVec.ofBool (decide (FloatOps.absf (F := Ideal) (φ := .f32) x < Ideal.ofBits FTy.f32 2139095040#32)) = 1#1) :
    ∃ r : ℝ, x = (r : EReal) := by
  have e : Ideal.ofBits FTy.f32 2139095040#32 = ⊤ := by simp [Ideal.ofBits, Ideal.ieee]
  rw [e] at h
  induction x with
  | bot => exact absurd h (by simp [FloatOps.absf])
  | coe r => exact ⟨r, rfl⟩
  | top => exact absurd h (by simp [FloatOps.absf])

/-- A number that is neither negative nor 16 or more, read as signed, is below 16. -/
theorem small_of_range (b : BitVec 32) (h : IntOp.cmpi CmpIPredicate.sge b 0#32 = 1#1) (h' : IntOp.cmpi CmpIPredicate.slt b 16#32 = 1#1) :
    b.toNat < 16 := by
  simp only [IntOp.cmpi] at h h'
  have h0 : (0#32).sle b = true := by revert h; cases (0#32).sle b <;> simp
  have h1 : b.slt 16#32 = true := by revert h'; cases b.slt 16#32 <;> simp
  rw [BitVec.sle_eq_decide, decide_eq_true_eq] at h0
  rw [BitVec.slt_eq_decide, decide_eq_true_eq] at h1
  have e0 : (0#32).toInt = 0 := by decide
  have e1 : (16#32).toInt = 16 := by decide
  rw [e0] at h0
  rw [e1] at h1
  rw [BitVec.toInt_eq_toNat_cond] at h0 h1
  have := b.isLt
  split at h0 <;> omega

/-- Comparing the numbers of two nodes as words compares the nodes. -/
theorem slt_nodes (i j : Fin 256) : IntOp.cmpi CmpIPredicate.slt (BitVec.ofNat 32 j.val) (BitVec.ofNat 32 i.val) = BitVec.ofBool (decide (j < i)) := by
  have e : ∀ a : Fin 256, (BitVec.ofNat 32 a.val).toInt = (a.val : Int) := fun a => by
    have h : (BitVec.ofNat 32 a.val).toNat = a.val := by
      rw [BitVec.toNat_ofNat]
      exact Nat.mod_eq_of_lt (by omega)
    rw [BitVec.toInt_eq_toNat_of_lt (by omega), h]
  simp only [IntOp.cmpi, BitVec.slt_eq_decide, e]
  exact congrArg BitVec.ofBool (decide_eq_decide.2 (by rw [Fin.lt_def]; omega))

/-- A sum of zeros and ones that is at most 16 counts fewer than 17. -/
theorem few_of_le (p : Fin 256 → Prop) [DecidablePred p] (h : BitVec.ofBool (decide ((∑ j : Fin 256, if p j then (1 : EReal) else 0)
    ≤ Ideal.ofBits FTy.f32 1098907648#32)) = 1#1) : (Finset.univ.filter p).card < 17 := by
  have e : Ideal.ofBits FTy.f32 1098907648#32 = ((16 : ℝ) : EReal) := by
    simp [Ideal.ofBits, Ideal.ieee, -EReal.coe_mul]; norm_num
  have hs : (∑ j : Fin 256, if p j then (1 : EReal) else 0) = (((Finset.univ.filter p).card : ℝ) : EReal) := by
    rw [Finset.sum_boole]
    rfl
  rw [e, hs] at h
  have h' : (((Finset.univ.filter p).card : ℝ) : EReal) ≤ ((16 : ℝ) : EReal) := by
    by_contra hn
    rw [decide_eq_false hn] at h
    exact absurd h (by decide)
  have h2 : ((Finset.univ.filter p).card : ℝ) ≤ 16 := EReal.coe_le_coe_iff.1 h'
  have h3 : (Finset.univ.filter p).card ≤ 16 := by exact_mod_cast h2
  omega

/-- What the condition says of the arrays: real coordinates, real weights of the differences of coordinates, relations below
    16, and fewer than 17 lower-numbered nodes at a node's own place. -/
theorem fn_apply (x0 : FVec Ideal S32x256x512 .f32) (x1 : FVec Ideal S32x256x3 .f32) (x2 : IVec S256x256 32) (x3 : FVec Ideal S32x16 .f32)
    (x4 : FVec Ideal S32x256x512 .f32) (x5 : FVec Ideal S64x10 .f32) (x6 : FVec Ideal S64 .f32) (x7 : FVec Ideal S128x64 .f32)
    (x8 : FVec Ideal S128 .f32) (x9 : FVec Ideal S256x512 .f32) (x10 : FVec Ideal S256 .f32) (x11 : FVec Ideal S128x256 .f32)
    (x12 : FVec Ideal S128 .f32) (x13 : FVec Ideal S256x512 .f32) (x14 : FVec Ideal S256 .f32) (x15 : FVec Ideal S128x256 .f32)
    (x16 : FVec Ideal S128 .f32) (x17 : FVec Ideal S128 .f32) (x18 : FVec Ideal S128 .f32)
    (h1 : (fn (F := Ideal) x0 x1 x2 x3 x4 x5 x6 x7 x8 x9 x10 x11 x12 x13 x14 x15 x16 x17 x18).1 = fun _ => 1#1)
    (h2 : (fn (F := Ideal) x0 x1 x2 x3 x4 x5 x6 x7 x8 x9 x10 x11 x12 x13 x14 x15 x16 x17 x18).2.1 = fun _ => 1#1)
    (h3 : (fn (F := Ideal) x0 x1 x2 x3 x4 x5 x6 x7 x8 x9 x10 x11 x12 x13 x14 x15 x16 x17 x18).2.2.1 = fun _ => 1#1)
    (h4 : (fn (F := Ideal) x0 x1 x2 x3 x4 x5 x6 x7 x8 x9 x10 x11 x12 x13 x14 x15 x16 x17 x18).2.2.2.1 = fun _ => 1#1)
    (h5 : (fn (F := Ideal) x0 x1 x2 x3 x4 x5 x6 x7 x8 x9 x10 x11 x12 x13 x14 x15 x16 x17 x18).2.2.2.2 = fun _ => 1#1) :
    (∀ s i k, ∃ r : ℝ, x1 (ix3 s i k) = (r : EReal)) ∧ (∀ k (a : Fin 3), ∃ r : ℝ, x5 (ix2 k ⟨6 + a.val, by omega⟩) = (r : EReal))
      ∧ (∀ i j, (x2 (ix2 i j)).toNat < 16) ∧ ∀ s i, (Finset.univ.filter fun j => j < i ∧ place x1 s i j = 0).card < 17 := by
  unfold fn fn_part1 fn_where at h1 h2 h3 h4 h5
  dsimp only at h1 h2 h3 h4 h5
  refine ⟨fun s i k => real_of_lt _ ?_, fun k a => real_of_lt _ ?_, fun i j => small_of_range _ ?_ ?_, fun s i => few_of_le _ ?_⟩
  · have h := congrFun h1 (ix3 s i k)
    pointwise at h
    exact h
  · have h := congrFun h2 (ix2 k a)
    pointwise at h
    exact h
  · have h := congrFun h3 (ix2 i j)
    pointwise at h
    exact h
  · have h := congrFun h4 (ix2 i j)
    pointwise at h
    exact h
  · have h := congrFun h5 (ix2 s i)
    pointwise at h
    refine Eq.trans (congrArg (fun e : EReal => BitVec.ofBool (decide (e ≤ Ideal.ofBits FTy.f32 1098907648#32))) (Finset.sum_congr rfl fun j _ => ?_)) h
    symm
    unfold id
    pointwise
    rw [slt_nodes]
    by_cases hj : j < i <;> by_cases hd : place x1 s i j = 0 <;> simp [hj, hd, IntOp.andi, Scalar.select]

end Cert.Pre_graph_inputs

end
-- ==== Proof.KernelIdeal.Round.lean ====
/- One pick of the loop over the nearest neighbours, read at an index, and the state of the loop after some picks: the
   set of picked columns of every row, the distances with those columns taken out, the indicator of the set, the last
   picked column, and the messages added up for all picks but the last. -/
module

public import proofs.«01_k».proof.Proof.Gen.KernelIdeal.Skeleton
public import Idealize.ShloMosaic.Lib.Pointwise
public import Idealize.ShloMosaic.PureOps.Ideal.Laws
public import proofs.«01_k».proof.Proof.Math.Selection
public import proofs.«01_k».proof.Proof.Math.Formula

@[expose] public section

set_option maxRecDepth 16384

noncomputable section

namespace Cert.KernelIdeal.Block

open Idealize.ShloMosaic Cert.KernelIdeal Cert.KernelIdeal.Gen Fusion

/-- The pattern of `+∞`. -/
theorem ofBits_top : Ideal.ofBits .f32 0x7F800000#32 = ⊤ := by
  simp [Ideal.ofBits, Ideal.ieee]

/-- The pattern of 256. -/
theorem ofBits_256 : Ideal.ofBits .f32 0x43800000#32 = ((256 : ℝ) : EReal) := by
  simp [Ideal.ofBits, Ideal.ieee, -EReal.coe_mul]; norm_num

/-- The column number as a float. -/
theorem colf_apply (i j : Fin 256) : k0_pay16 (F := Ideal) (ix2 i j) = ((j.val : ℝ) : EReal) := by
  unfold k0_pay16
  pointwise
  have h : (BitVec.ofNat 32 j.val).toInt = (j.val : ℤ) := by
    rw [BitVec.toInt_eq_toNat_of_lt]
    · simp; omega
    · simp; omega
  show (((BitVec.ofNat 32 j.val).toInt : ℝ) : EReal) = _
  rw [h]; simp

/-- The row minimum is below every entry of the row. -/
theorem rowmin_le (d : FVec Ideal S256x256 .f32) (i j : Fin 256) : k0_pay2 d (ix2 i 0) ≤ d (ix2 i j) := by
  unfold k0_pay2
  pointwise
  exact Finset.fold_min_le _ |>.mpr (Or.inr ⟨j, Finset.mem_univ _, le_rfl⟩)

/-- The row minimum is an entry of the row. -/
theorem rowmin_mem (d : FVec Ideal S256x256 .f32) (i : Fin 256) : ∃ j : Fin 256, d (ix2 i j) = k0_pay2 d (ix2 i 0) := by
  obtain ⟨j, -, hj⟩ := Finset.exists_min_image (Finset.univ : Finset (Fin 256)) (fun j => d (ix2 i j)) ⟨0, Finset.mem_univ _⟩
  refine ⟨j, le_antisymm ?_ (rowmin_le d i j)⟩
  unfold k0_pay2
  pointwise
  refine (Finset.le_fold_min _).mpr ⟨?_, fun x hx => hj x hx⟩
  rw [ofBits_top]; exact le_top

/-- The hit mask marks the first column at which the row reaches its minimum. -/
theorem hit_apply (d : FVec Ideal S256x256 .f32) (i p : Fin 256) (hp : d (ix2 i p) ≤ k0_pay2 d (ix2 i 0))
    (hfirst : ∀ j : Fin 256, d (ix2 i j) ≤ k0_pay2 d (ix2 i 0) → p ≤ j) (j : Fin 256) :
    k0_pay3 k0_pay16 d (ix2 i j) = if j = p then 1#1 else 0#1 := by
  unfold k0_pay3
  pointwise
  have hfold : Finset.fold min (Ideal.ofBits FTy.f32 2139095040#32)
      (fun x : Fin 256 => if d (ix2 i x) ≤ k0_pay2 d (ix2 i 0) then k0_pay16 (F := Ideal) (ix2 i x)
        else Ideal.ofBits FTy.f32 1132462080#32) Finset.univ = ((p.val : ℝ) : EReal) := by
    apply le_antisymm
    · refine (Finset.fold_min_le _).mpr (Or.inr ⟨p, Finset.mem_univ _, ?_⟩)
      rw [if_pos hp, colf_apply]
    · refine (Finset.le_fold_min _).mpr ⟨?_, fun x _ => ?_⟩
      · rw [ofBits_top]; exact le_top
      · split
        · rename_i h
          rw [colf_apply]
          have := hfirst x h
          exact_mod_cast this
        · rw [ofBits_256]
          have := p.isLt
          exact_mod_cast this.le
  rw [hfold, colf_apply]
  by_cases h : j = p
  · simp [h]
  · have h' : ¬ ((j.val : ℝ) : EReal) = ((p.val : ℝ) : EReal) := by
      intro e
      apply h
      apply Fin.ext
      exact_mod_cast e
    rw [if_neg h, decide_eq_false h']
    rfl

/-- What the neighbour `p` adds to row `i`: its features times the relation network at the pair. -/
def message (D : Fin 256 → Fin 256 → EReal) (t : Vec Ideal S256x192 .f32) (base : FVec Ideal S256x64 .f32)
    (wd : Vec Ideal S1x64 .f32) (w2 : Vec Ideal S64x128 .f32) (b2 : Vec Ideal S1x128 .f32) (i p : Fin 256) (c : Fin 128) : EReal :=
  t (ix2 p ⟨c.val, by omega⟩) *
    (∑ k : Fin 64, leaky (t (ix2 p ⟨128 + k.val, by omega⟩) + Ideal.sqrt (D i p) * wd (ix2 0 k) + base (ix2 i k)) * w2 (ix2 k c)
      + b2 (ix2 0 c))

/-- The state of the loop when the columns `P i` of every row `i` have been picked, `last i` the latest. -/
structure State (D : Fin 256 → Fin 256 → EReal) (t : Vec Ideal S256x192 .f32) (base : FVec Ideal S256x64 .f32)
    (wd : Vec Ideal S1x64 .f32) (w2 : Vec Ideal S64x128 .f32) (b2 : Vec Ideal S1x128 .f32)
    (n : ℕ) (P : Fin 256 → Finset (Fin 256)) (last : Fin 256 → Fin 256)
    (d : FVec Ideal S256x256 .f32) (acc : FVec Ideal S256x128 .f32) (sel oh : FVec Ideal S256x256 .f32)
    (dt : FVec Ideal S256x64 .f32) : Prop where
  low : ∀ i, Nearest.Low (D i) i (P i)
  card : ∀ i, (P i).card = n
  mem : ∀ i, last i ∈ P i
  d_eq : ∀ i j, d (ix2 i j) = Nearest.rest (D i) (P i) j
  sel_eq : ∀ i j, sel (ix2 i j) = if j ∈ P i then 1 else 0
  oh_eq : ∀ i j, oh (ix2 i j) = if j = last i then 1 else 0
  dt_eq : ∀ i k, dt (ix2 i k) = Ideal.sqrt (D i (last i)) * wd (ix2 0 k)
  acc_eq : ∀ i c, acc (ix2 i c) = ∑ p ∈ (P i).erase (last i), message D t base wd w2 b2 i p c

/-- A one-hot row times a matrix is the row it marks. -/
theorem onehot_sum (f : Fin 256 → EReal) (oh : Fin 256 → EReal) (p : Fin 256) (h : ∀ x, oh x = if x = p then 1 else 0) :
    ∑ x, oh x * f x = f p := by
  rw [Finset.sum_eq_single p]
  · rw [h, if_pos rfl, one_mul]
  · intro b _ hb; rw [h, if_neg hb, zero_mul]
  · intro hb; exact absurd (Finset.mem_univ _) hb

/-- The accumulator after one more pick: the message of the pick before it is added. -/
theorem acc_apply (D : Fin 256 → Fin 256 → EReal) (t : Vec Ideal S256x192 .f32) (base : FVec Ideal S256x64 .f32)
    (wd : Vec Ideal S1x64 .f32) (w2 : Vec Ideal S64x128 .f32) (b2 : Vec Ideal S1x128 .f32)
    (acc : FVec Ideal S256x128 .f32) (oh : FVec Ideal S256x256 .f32) (dt : FVec Ideal S256x64 .f32) (i p : Fin 256) (c : Fin 128)
    (hoh : ∀ j, oh (ix2 i j) = if j = p then 1 else 0)
    (hdt : ∀ k, dt (ix2 i k) = Ideal.sqrt (D i p) * wd (ix2 0 k)) :
    k0_pay8 base acc oh dt t w2 b2 (ix2 i c) = acc (ix2 i c) + message D t base wd w2 b2 i p c := by
  unfold k0_pay8
  pointwise [dot_S256x256_S256x192_S256x192_1_0_0_1_n_n, dot_S256x64_S64x128_S256x128_1_0_0_1_n_n]
  have hs : ∀ l : Fin 192, ∑ x, oh (ix2 i x) * t (ix2 x l) = t (ix2 p l) := fun l =>
    onehot_sum (fun x => t (ix2 x l)) (fun x => oh (ix2 i x)) p hoh
  simp only [hs, hdt]
  rfl

/-- One more pick. -/
theorem State.pick {D : Fin 256 → Fin 256 → EReal} (hD : ∀ i j, D i j < ⊤) {t : Vec Ideal S256x192 .f32}
    {base : FVec Ideal S256x64 .f32} {wd : Vec Ideal S1x64 .f32} {w2 : Vec Ideal S64x128 .f32} {b2 : Vec Ideal S1x128 .f32}
    {n : ℕ} (hn : n < 256) {P : Fin 256 → Finset (Fin 256)} {last : Fin 256 → Fin 256}
    {d : FVec Ideal S256x256 .f32} {acc : FVec Ideal S256x128 .f32} {sel oh : FVec Ideal S256x256 .f32}
    {dt : FVec Ideal S256x64 .f32} (h : State D t base wd w2 b2 n P last d acc sel oh dt) :
    ∃ P' last', State D t base wd w2 b2 (n + 1) P' last' (k0_pay5 k0_pay16 d) (k0_pay8 base acc oh dt t w2 b2)
      (k0_pay6 k0_pay16 d sel) (k0_pay4 k0_pay16 d) (k0_pay7 d wd) := by
  have hex := fun i => Nearest.exists_pick (hD i) (P := P i) (m := k0_pay2 d (ix2 i 0)) (by rw [h.card]; exact hn)
    (fun j => by rw [← h.d_eq]; exact rowmin_le d i j)
    (by obtain ⟨j, hj⟩ := rowmin_mem d i; exact ⟨j, by rw [← h.d_eq, hj]⟩)
  choose p hp hDp hbef hple hfirst using hex
  have hit := fun i => hit_apply d i (p i) (by rw [h.d_eq]; exact hple i) (fun j hj => hfirst i j (by rw [← h.d_eq]; exact hj))
  have hoh : ∀ i j, k0_pay4 k0_pay16 d (ix2 i j) = if j = p i then 1 else 0 := by
    intro i j
    unfold k0_pay4
    pointwise
    rw [hit]
    show (((BitVec.setWidth 32 (if j = p i then 1#1 else 0#1)).toInt : ℝ) : EReal) = _
    split <;> simp
  refine ⟨fun i => insert (p i) (P i), p, ?_⟩
  constructor
  · exact fun i => (h.low i).insert (hp i) (hbef i)
  · intro i; rw [Finset.card_insert_of_notMem (hp i), h.card]
  · exact fun i => Finset.mem_insert_self _ _
  · intro i j
    unfold k0_pay5
    pointwise
    rw [hit, Nearest.rest_insert, h.d_eq, ofBits_top]
    split <;> rfl
  · intro i j
    unfold k0_pay6
    pointwise
    rw [hoh, h.sel_eq]
    by_cases hj : j = p i
    · subst hj; simp [hp i]
    · simp [hj]
  · exact hoh
  · intro i k
    unfold k0_pay7
    pointwise
    rw [hDp]
  · intro i c
    rw [acc_apply D t base wd w2 b2 acc oh dt i (last i) c (h.oh_eq i) (h.dt_eq i), h.acc_eq, Finset.erase_insert (hp i),
      Finset.sum_erase_add _ _ (h.mem i)]

end Cert.KernelIdeal.Block
-- ==== Proof.KernelIdeal.Trip.lean ====
/- The loop over the nearest neighbours, eight trips of two picks each: before trip `n` every row has `2 n + 1` picked
   columns. -/
module

public import proofs.«01_k».proof.Proof.KernelIdeal.Blocks
public import proofs.«01_k».proof.Proof.KernelIdeal.Round

@[expose] public section

set_option maxRecDepth 16384

noncomputable section

namespace Cert.KernelIdeal.Block

open Idealize.ShloMosaic Idealize.ShloMosaic.TcCoe Cert.KernelIdeal Cert.KernelIdeal.Gen

/-- The state of the loop as the tuple it carries. -/
def Carried (D : Fin 256 → Fin 256 → EReal) (t : Vec Ideal S256x192 .f32) (base : FVec Ideal S256x64 .f32)
    (wd : Vec Ideal S1x64 .f32) (w2 : Vec Ideal S64x128 .f32) (b2 : Vec Ideal S1x128 .f32) (n : ℕ)
    (s : FVec Ideal S256x256 .f32 × FVec Ideal S256x128 .f32 × FVec Ideal S256x256 .f32 × FVec Ideal S256x256 .f32 × FVec Ideal S256x64 .f32) : Prop :=
  ∃ P last, State D t base wd w2 b2 n P last s.1 s.2.1 s.2.2.1 s.2.2.2.1 s.2.2.2.2

section

variable {F : FTy → Type} [FloatOps F]

/-- The second pick of a trip is written like the first. -/
theorem pay22_eq (v : FVec F S256x256 .f32) : k0_pay22 v = k0_pay2 v := rfl

theorem pay23_eq (v : FVec F S256x256 .f32) : k0_pay23 v = k0_pay3 k0_pay16 v := rfl

theorem pay24_eq (v : FVec F S256x256 .f32) : k0_pay24 v = k0_pay4 k0_pay16 v := rfl

theorem pay25_eq (v : FVec F S256x256 .f32) : k0_pay25 v = k0_pay5 k0_pay16 v := rfl

theorem pay26_eq (v s : FVec F S256x256 .f32) : k0_pay26 v s = k0_pay6 k0_pay16 v s := rfl

theorem pay27_eq (v : FVec F S256x256 .f32) (w : Vec F S1x64 .f32) : k0_pay27 v w = k0_pay7 v w := rfl

theorem pay28_eq (v1 : FVec F S256x8 .f32) (v81 : Vec F S8x64 .f32) (v84 : Vec F S1x64 .f32) (oh : FVec F S256x256 .f32)
    (dt : FVec F S256x64 .f32) (acc : FVec F S256x128 .f32) (t : Vec F S256x192 .f32) (w2 : Vec F S64x128 .f32)
    (b2 : Vec F S1x128 .f32) :
    k0_pay28 v1 v81 v84 oh dt acc t w2 b2 = k0_pay8 (k0_pay15 v1 v81 v84) acc oh dt t w2 b2 := rfl

end

/-- One trip is two picks. -/
theorem trip_carried  (𝒱 : Variants) (c : Dev nD) (bd : Option 𝒱.V) (i : grid0.Coords) (arg1 : Memref sig .tc .vmem S1x256x512 .f32) (harg1 : arg1.IsWhole) (arg2 : Memref sig .tc .vmem S1x256x8 .f32) (harg2 : arg2.IsWhole) (arg3 : Memref sig .tc .vmem S1x8x256 .f32) (harg3 : arg3.IsWhole) (arg4 : Memref sig .tc .vmem S256x256 .i32) (harg4 : arg4.IsWhole) (arg5 : Memref sig .tc .vmem S1x1x16 .f32) (harg5 : arg5.IsWhole) (arg6 : Memref sig .tc .vmem S1x256x512 .f32) (harg6 : arg6.IsWhole) (arg7 : Memref sig .tc .vmem S8x64 .f32) (harg7 : arg7.IsWhole) (arg8 : Memref sig .tc .vmem S8x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S512x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S512x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x256x128 .f32) (harg23 : arg23.IsWhole) (arg24 : Memref sig .tc .vmem S256x192 .f32) (harg24 : arg24.IsWhole) (arg25 : Memref sig .tc .vmem S256x128 .f32) (harg25 : arg25.IsWhole) (v1 : FVec Ideal S256x8 .f32) (v64 : FVec Ideal S256x256 .f32) (v65 : FVec Ideal S256x1 .f32) (v66 : Vec Ideal S1x1x256 .f32) (v81 : Vec Ideal S8x64 .f32) (v84 : Vec Ideal S1x64 .f32) (X_arg9 : BufTy.Contents (Elt Ideal) arg9.view.ty) (X_arg11 : BufTy.Contents (Elt Ideal) arg11.view.ty) (X_arg12 : BufTy.Contents (Elt Ideal) arg12.view.ty) (X_arg24 : BufTy.Contents (Elt Ideal) arg24.view.ty) (k : Fin k0_t1_loop.trips) (acc : FVec Ideal S256x256 .f32 × FVec Ideal S256x128 .f32 × FVec Ideal S256x256 .f32 × FVec Ideal S256x256 .f32 × FVec Ideal S256x64 .f32)
    (t : Vec Ideal S256x192 .f32) (ht : t = View.readAt (Elt Ideal) arg24.view (Rect.unit (s := S256x192) ![0, 0] S256x192.size inb_S256x192_S256x192_0_0).toLoadRect X_arg24)
    (wd : Vec Ideal S1x64 .f32) (hwd : wd = View.readAt (Elt Ideal) arg9.view (Rect.unit (s := S1x64) ![0, 0] S1x64.size inb_S1x64_S1x64_0_0).toLoadRect X_arg9)
    (w2 : Vec Ideal S64x128 .f32) (hw2 : w2 = View.readAt (Elt Ideal) arg11.view (Rect.unit (s := S64x128) ![0, 0] S64x128.size inb_S64x128_S64x128_0_0).toLoadRect X_arg11)
    (b2 : Vec Ideal S1x128 .f32) (hb2 : b2 = View.readAt (Elt Ideal) arg12.view (Rect.unit (s := S1x128) ![0, 0] S1x128.size inb_S1x128_S1x128_0_0).toLoadRect X_arg12)
    (D : Fin 256 → Fin 256 → EReal) (hD : ∀ i j, D i j < ⊤) (n : ℕ) (hn : n + 1 < 256)
    (h : Carried D t (k0_pay15 v1 v81 v84) wd w2 b2 n acc) :
    Carried D t (k0_pay15 v1 v81 v84) wd w2 b2 (n + 2) (tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v64 v65 v66 v81 v84 X_arg9 X_arg11 X_arg12 X_arg24 k acc) := by
  obtain ⟨P, last, h⟩ := h
  obtain ⟨P₁, last₁, h₁⟩ := h.pick hD (by omega)
  obtain ⟨P₂, last₂, h₂⟩ := h₁.pick hD hn
  unfold tripR_k0_t1 trip_k0_t1
  simp only [pay24_eq, pay25_eq, pay26_eq, pay27_eq, pay28_eq]
  simp only [Gen.trip_k0_t1.sl.r, Gen.trip_k0_t1.sl.r_1, Gen.trip_k0_t1.sl.r_2, Gen.trip_k0_t1.sl.r_3, Gen.trip_k0_t1.sl.r_4]
  rw [← ht, ← hwd, ← hw2, ← hb2]
  unfold Carried
  dsimp only
  exact ⟨P₂, last₂, h₂⟩

/-- Before trip `n` the loop has `2 n + 1` picks. -/
theorem st_carried  (𝒱 : Variants) (c : Dev nD) (bd : Option 𝒱.V) (i : grid0.Coords) (arg1 : Memref sig .tc .vmem S1x256x512 .f32) (harg1 : arg1.IsWhole) (arg2 : Memref sig .tc .vmem S1x256x8 .f32) (harg2 : arg2.IsWhole) (arg3 : Memref sig .tc .vmem S1x8x256 .f32) (harg3 : arg3.IsWhole) (arg4 : Memref sig .tc .vmem S256x256 .i32) (harg4 : arg4.IsWhole) (arg5 : Memref sig .tc .vmem S1x1x16 .f32) (harg5 : arg5.IsWhole) (arg6 : Memref sig .tc .vmem S1x256x512 .f32) (harg6 : arg6.IsWhole) (arg7 : Memref sig .tc .vmem S8x64 .f32) (harg7 : arg7.IsWhole) (arg8 : Memref sig .tc .vmem S8x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S512x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S512x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x256x128 .f32) (harg23 : arg23.IsWhole) (arg24 : Memref sig .tc .vmem S256x192 .f32) (harg24 : arg24.IsWhole) (arg25 : Memref sig .tc .vmem S256x128 .f32) (harg25 : arg25.IsWhole) (v1 : FVec Ideal S256x8 .f32) (v64 : FVec Ideal S256x256 .f32) (v65 : FVec Ideal S256x1 .f32) (v66 : Vec Ideal S1x1x256 .f32) (v81 : Vec Ideal S8x64 .f32) (v84 : Vec Ideal S1x64 .f32) (X_arg9 : BufTy.Contents (Elt Ideal) arg9.view.ty) (X_arg11 : BufTy.Contents (Elt Ideal) arg11.view.ty) (X_arg12 : BufTy.Contents (Elt Ideal) arg12.view.ty) (X_arg24 : BufTy.Contents (Elt Ideal) arg24.view.ty) (init : FVec Ideal S256x256 .f32 × FVec Ideal S256x128 .f32 × FVec Ideal S256x256 .f32 × FVec Ideal S256x256 .f32 × FVec Ideal S256x64 .f32)
    (t : Vec Ideal S256x192 .f32) (ht : t = View.readAt (Elt Ideal) arg24.view (Rect.unit (s := S256x192) ![0, 0] S256x192.size inb_S256x192_S256x192_0_0).toLoadRect X_arg24)
    (wd : Vec Ideal S1x64 .f32) (hwd : wd = View.readAt (Elt Ideal) arg9.view (Rect.unit (s := S1x64) ![0, 0] S1x64.size inb_S1x64_S1x64_0_0).toLoadRect X_arg9)
    (w2 : Vec Ideal S64x128 .f32) (hw2 : w2 = View.readAt (Elt Ideal) arg11.view (Rect.unit (s := S64x128) ![0, 0] S64x128.size inb_S64x128_S64x128_0_0).toLoadRect X_arg11)
    (b2 : Vec Ideal S1x128 .f32) (hb2 : b2 = View.readAt (Elt Ideal) arg12.view (Rect.unit (s := S1x128) ![0, 0] S1x128.size inb_S1x128_S1x128_0_0).toLoadRect X_arg12)
    (D : Fin 256 → Fin 256 → EReal) (hD : ∀ i j, D i j < ⊤)
    (h : Carried D t (k0_pay15 v1 v81 v84) wd w2 b2 1 init) (n : ℕ) (hn : n ≤ 8) :
    Carried D t (k0_pay15 v1 v81 v84) wd w2 b2 (2 * n + 1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v64 v65 v66 v81 v84 X_arg9 X_arg11 X_arg12 X_arg24 init n) := by
  induction n with
  | zero => exact h
  | succ n ih =>
    have h8 : k0_t1_loop.trips = 8 := by decide
    have hs := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v64 v65 v66 v81 v84 X_arg9 X_arg11 X_arg12 X_arg24 init ⟨n, by omega⟩
    rw [hs]
    exact trip_carried 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 v64 v65 v66 v81 v84 X_arg9 X_arg11 X_arg12 X_arg24 _ _ t ht wd hwd w2 hw2 b2 hb2 D hD (2 * n + 1) (by omega) (ih (by omega))

end Cert.KernelIdeal.Block

end
-- ==== Proof.KernelIdeal.Parts.lean ====
/- What one block computes outside the loop over the picks, read at an index: the two feature networks, the start of
   the loop, the edge type's weight, the residual and its normalization. -/
module

public import proofs.«01_k».proof.Proof.KernelIdeal.Round

@[expose] public section

set_option maxRecDepth 16384

noncomputable section

namespace Cert.KernelIdeal.Block

open Idealize.ShloMosaic Cert.KernelIdeal Cert.KernelIdeal.Gen Fusion

/-- The features of a node. -/
theorem fe_apply (v2 : Vec Ideal S1x256x512 .f32) (v4 : Vec Ideal S512x256 .f32) (v7 : Vec Ideal S1x256 .f32)
    (v16 : Vec Ideal S256x128 .f32) (v19 : Vec Ideal S1x128 .f32) (i : Fin 256) (c : Fin 128) :
    k0_pay10 v2 v4 v7 v16 v19 (ix2 i c) =
      output (hidden (fun a => v2 (ix3 0 i a)) (fun a k => v4 (ix2 a k)) (fun k => v7 (ix2 0 k)))
        (fun k c => v16 (ix2 k c)) (fun c => v19 (ix2 0 c)) c := by
  unfold k0_pay10
  pointwise [dot_S256x512_S512x256_S256x256_1_0_0_1_n_n, dot_S256x256_S256x128_S256x128_1_0_0_1_n_n]
  rfl

/-- The edge features of a node. -/
theorem ef_apply (v2 : Vec Ideal S1x256x512 .f32) (v4 : Vec Ideal S512x256 .f32) (v7 : Vec Ideal S1x256 .f32)
    (v16 : Vec Ideal S256x128 .f32) (v19 : Vec Ideal S1x128 .f32) (i : Fin 256) (c : Fin 128) :
    k0_pay12 v2 v4 v7 v16 v19 (ix2 i c) =
      output (hidden (fun a => v2 (ix3 0 i a)) (fun a k => v4 (ix2 a k)) (fun k => v7 (ix2 0 k)))
        (fun k c => v16 (ix2 k c)) (fun c => v19 (ix2 0 c)) c := by
  unfold k0_pay12
  pointwise [dot_S256x512_S512x256_S256x256_1_0_0_1_n_n, dot_S256x256_S256x128_S256x128_1_0_0_1_n_n]
  rfl

/-- The neighbour's share of the hidden layer. -/
theorem ta_apply (v0 : Vec Ideal S1x256x8 .f32) (v26 : Vec Ideal S8x64 .f32) (i : Fin 256) (k : Fin 64) :
    k0_pay11 v0 v26 (ix2 i k) = ∑ x : Fin 8, v0 (ix3 0 i x) * v26 (ix2 x k) := by
  unfold k0_pay11 k0_pay9
  pointwise [dot_S256x8_S8x64_S256x64_1_0_0_1_n_n]

/-- The centre's share of the hidden layer. -/
theorem base_apply (v0 : Vec Ideal S1x256x8 .f32) (v81 : Vec Ideal S8x64 .f32) (v84 : Vec Ideal S1x64 .f32)
    (i : Fin 256) (k : Fin 64) :
    k0_pay15 (k0_pay9 v0) v81 v84 (ix2 i k) = ∑ x : Fin 8, v0 (ix3 0 i x) * v81 (ix2 x k) + v84 (ix2 0 k) := by
  unfold k0_pay15 k0_pay9
  pointwise [dot_S256x8_S8x64_S256x64_1_0_0_1_n_n]

/-- The diagonal. -/
theorem diag_apply (i j : Fin 256) : k0_pay17 (F := Ideal) (ix2 i j) = if j = i then 1#1 else 0#1 := by
  unfold k0_pay17
  pointwise
  rw [colf_apply]
  have h : (BitVec.ofNat 32 i.val).toInt = (i.val : ℤ) := by
    rw [BitVec.toInt_eq_toNat_of_lt]
    · simp; omega
    · simp; omega
  have h' : FloatOps.sitofp (F := Ideal) FTy.f32 (BitVec.ofNat 32 i.val) = ((i.val : ℝ) : EReal) := by
    show (((BitVec.ofNat 32 i.val).toInt : ℝ) : EReal) = _
    rw [h]; simp
  rw [h']
  by_cases e : j = i
  · simp [e]
  · have : ¬ ((j.val : ℝ) : EReal) = ((i.val : ℝ) : EReal) := by
      intro e'
      apply e
      apply Fin.ext
      exact_mod_cast e'
    rw [if_neg e, decide_eq_false this]
    rfl

/-- The diagonal as floats. -/
theorem eye_apply (i j : Fin 256) : k0_pay18 (F := Ideal) (ix2 i j) = if j = i then 1 else 0 := by
  unfold k0_pay18
  pointwise
  rw [diag_apply]
  show (((BitVec.setWidth 32 (if j = i then 1#1 else 0#1)).toInt : ℝ) : EReal) = _
  split <;> simp

/-- The squared distance of two positions. -/
def sq (u : Fin 256 → Fin 3 → ℝ) (i j : Fin 256) : EReal :=
  (((u j 0 - u i 0) * (u j 0 - u i 0) + (u j 1 - u i 1) * (u j 1 - u i 1) + (u j 2 - u i 2) * (u j 2 - u i 2) : ℝ) : EReal)

/-- The squared distances with the diagonal taken out. -/
theorem dist_apply (x1 : Vec Ideal S1x256x8 .f32) (r0 r1 r2 : Vec Ideal S1x1x256 .f32) (u : Fin 256 → Fin 3 → ℝ)
    (hu : ∀ i (k : Fin 3), x1 (ix3 0 i (k.castLE (by omega))) = ((u i k : ℝ) : EReal))
    (h0 : ∀ j, r0 (ix3 0 0 j) = ((u j 0 : ℝ) : EReal)) (h1 : ∀ j, r1 (ix3 0 0 j) = ((u j 1 : ℝ) : EReal))
    (h2 : ∀ j, r2 (ix3 0 0 j) = ((u j 2 : ℝ) : EReal)) (i j : Fin 256) :
    k0_pay19 (k0_pay9 x1) (k0_pay13 (k0_pay9 x1) r0) (k0_pay14 (k0_pay9 x1)) r1 r2 (ix2 i j) =
      Nearest.rest (sq u i) {i} j := by
  unfold k0_pay19 k0_pay13 k0_pay14 k0_pay9
  pointwise
  have e0 : x1 (ix3 0 i 0) = ((u i 0 : ℝ) : EReal) := hu i 0
  have e1 : x1 (ix3 0 i 1) = ((u i 1 : ℝ) : EReal) := hu i 1
  have e2 : x1 (ix3 0 i 2) = ((u i 2 : ℝ) : EReal) := hu i 2
  rw [diag_apply, h0, h1, h2, e0, e1, e2, ofBits_top]
  unfold Nearest.rest sq
  by_cases e : j = i
  · simp [e, Scalar.select]
  · simp [e, Scalar.select, EReal.coe_add, EReal.coe_mul, EReal.coe_sub]

/-- The state before the first trip: every row has picked its own column. -/
theorem start (u : Fin 256 → Fin 3 → ℝ) (t : Vec Ideal S256x192 .f32) (v1 : FVec Ideal S256x8 .f32)
    (v81 : Vec Ideal S8x64 .f32) (v84 : Vec Ideal S1x64 .f32) (wd : Vec Ideal S1x64 .f32) (w2 : Vec Ideal S64x128 .f32)
    (b2 : Vec Ideal S1x128 .f32) (ef : Vec Ideal S256x128 .f32) (d : FVec Ideal S256x256 .f32)
    (hd : ∀ i j, d (ix2 i j) = Nearest.rest (sq u i) {i} j) :
    State (sq u) t (k0_pay15 v1 v81 v84) wd w2 b2 1 (fun i => {i}) (fun i => i) d (k0_pay20 ef) k0_pay18 k0_pay18
      (k0_pay21 v1 v81 v84) := by
  constructor
  · exact fun i => Nearest.Low.singleton _ _
  · exact fun i => Finset.card_singleton i
  · exact fun i => Finset.mem_singleton_self i
  · exact hd
  · intro i j; rw [eye_apply]; simp only [Finset.mem_singleton]
  · intro i j; rw [eye_apply]
  · intro i k
    have hz : sq u i i = 0 := by unfold sq; simp
    rw [hz]
    unfold k0_pay21
    pointwise
    have : Ideal.sqrt 0 = 0 := by
      show (if (0 : ℝ) < 0 then (⊥ : EReal) else ((Real.sqrt 0 : ℝ) : EReal)) = 0
      simp
    rw [this, zero_mul, mul_zero]
  · intro i c
    unfold k0_pay20
    pointwise
    simp

/-- The last message, for the pick of the last round. -/
theorem last_stage (base : FVec Ideal S256x64 .f32) (acc : FVec Ideal S256x128 .f32) (oh : FVec Ideal S256x256 .f32)
    (dt : FVec Ideal S256x64 .f32) (t : Vec Ideal S256x192 .f32) (w2 : Vec Ideal S64x128 .f32) (b2 : Vec Ideal S1x128 .f32) :
    k0_pay31 base acc (k0_pay29 oh t) (k0_pay30 oh dt t) w2 b2 = k0_pay8 base acc oh dt t w2 b2 := rfl

/-- Four bits choose one of sixteen weights. -/
theorem choose16 (v : BitVec 32) (hv : v.toNat < 16) (w : Fin 16 → EReal) :
    Scalar.select (IntOp.cmpi .ne (IntOp.andi v 8#32) 0#32)
      (Scalar.select (IntOp.cmpi .ne (IntOp.andi v 4#32) 0#32)
        (Scalar.select (IntOp.cmpi .ne (IntOp.andi v 2#32) 0#32)
          (Scalar.select (IntOp.cmpi .ne (IntOp.andi v 1#32) 0#32) (w 15) (w 14))
          (Scalar.select (IntOp.cmpi .ne (IntOp.andi v 1#32) 0#32) (w 13) (w 12)))
        (Scalar.select (IntOp.cmpi .ne (IntOp.andi v 2#32) 0#32)
          (Scalar.select (IntOp.cmpi .ne (IntOp.andi v 1#32) 0#32) (w 11) (w 10))
          (Scalar.select (IntOp.cmpi .ne (IntOp.andi v 1#32) 0#32) (w 9) (w 8))))
      (Scalar.select (IntOp.cmpi .ne (IntOp.andi v 4#32) 0#32)
        (Scalar.select (IntOp.cmpi .ne (IntOp.andi v 2#32) 0#32)
          (Scalar.select (IntOp.cmpi .ne (IntOp.andi v 1#32) 0#32) (w 7) (w 6))
          (Scalar.select (IntOp.cmpi .ne (IntOp.andi v 1#32) 0#32) (w 5) (w 4)))
        (Scalar.select (IntOp.cmpi .ne (IntOp.andi v 2#32) 0#32)
          (Scalar.select (IntOp.cmpi .ne (IntOp.andi v 1#32) 0#32) (w 3) (w 2))
          (Scalar.select (IntOp.cmpi .ne (IntOp.andi v 1#32) 0#32) (w 1) (w 0)))) = w ⟨v.toNat, hv⟩ := by
  obtain ⟨n, hn, rfl⟩ : ∃ n, n < 16 ∧ v = BitVec.ofNat 32 n := ⟨v.toNat, hv, by simp⟩
  interval_cases n <;> rfl

/-- The residual of a node: the messages, the weighted edge features of its picks, its own features. -/
theorem residual_apply (sel : FVec Ideal S256x256 .f32) (acc : FVec Ideal S256x128 .f32) (rel : Vec Ideal S256x256 .i32)
    (e : Fin 16 → Vec Ideal S1x1x1 .f32) (ef fe : Vec Ideal S256x128 .f32) (P : Finset (Fin 256)) (i : Fin 256) (c : Fin 128)
    (hsel : ∀ j, sel (ix2 i j) = if j ∈ P then 1 else 0) (hrel : ∀ j, (rel (ix2 i j)).toNat < 16) :
    k0_pay39 sel acc (k0_pay32 rel) (k0_pay33 rel) (k0_pay34 rel) (k0_pay35 rel)
      (k0_pay37 (k0_pay32 rel) (k0_pay33 rel) (k0_pay34 rel) (k0_pay36 (e 15)) (e 14) (e 13) (e 12) (e 11) (e 10) (e 9) (e 8))
      (k0_pay38 (k0_pay32 rel) (e 7) (e 6)) (e 5) (e 4) (e 3) (e 2) (e 1) (e 0) ef fe ef (ix2 i c) =
      acc (ix2 i c) + ∑ p ∈ P, e ⟨(rel (ix2 i p)).toNat, hrel p⟩ (ix3 0 0 0) * ef (ix2 p c) + fe (ix2 i c) + ef (ix2 i c) := by
  unfold k0_pay39 k0_pay38 k0_pay37 k0_pay36 k0_pay35 k0_pay34 k0_pay33 k0_pay32
  pointwise [dot_S256x256_S256x128_S256x128_1_0_0_1_n_n]
  congr 3
  rw [← Finset.sum_subset (Finset.subset_univ P)]
  · refine Finset.sum_congr rfl fun p hp => ?_
    rw [hsel, if_pos hp, one_mul]
    congr 1
    exact choose16 (rel (ix2 i p)) (hrel p) (fun k => e k (ix3 0 0 0))
  · intro p _ hp
    rw [hsel, if_neg hp, zero_mul, zero_mul]

/-- The row sums of the residual. -/
theorem rowsum_apply (sel : FVec Ideal S256x256 .f32) (acc : FVec Ideal S256x128 .f32) (b0 b1 b2 b3 : IVec S256x256 1)
    (h l : FVec Ideal S256x256 .f32) (e5 e4 e3 e2 e1 e0 : Vec Ideal S1x1x1 .f32) (ef fe ef' : Vec Ideal S256x128 .f32) (i : Fin 256) :
    k0_pay40 sel acc b0 b1 b2 b3 h l e5 e4 e3 e2 e1 e0 ef fe ef' (ix2 i 0) =
      ∑ x : Fin 128, k0_pay39 sel acc b0 b1 b2 b3 h l e5 e4 e3 e2 e1 e0 ef fe ef' (ix2 i x) := by
  unfold k0_pay40
  pointwise

/-- The normalized residual. -/
theorem normalize_apply (r : FVec Ideal S256x128 .f32) (s : FVec Ideal S256x1 .f32) (g b : Vec Ideal S1x128 .f32)
    (i : Fin 256) (c : Fin 128) (hs : s (ix2 i 0) = ∑ x : Fin 128, r (ix2 i x)) :
    k0_pay1 r s (FloatOps.ofBits .f32 0x43000000#32) g b (ix3 0 i c) =
      normalize (fun x => r (ix2 i x)) (fun x => g (ix2 0 x)) (fun x => b (ix2 0 x)) c := by
  unfold k0_pay1
  pointwise
  rw [hs]
  rfl

/-- The output of a node when seventeen columns are picked. -/
theorem assemble (D : Fin 256 → Fin 256 → EReal) (t : Vec Ideal S256x192 .f32) (base : FVec Ideal S256x64 .f32)
    (wd : Vec Ideal S1x64 .f32) (w2 : Vec Ideal S64x128 .f32) (b2 : Vec Ideal S1x128 .f32) (n : ℕ)
    (P : Fin 256 → Finset (Fin 256)) (last : Fin 256 → Fin 256) (d : FVec Ideal S256x256 .f32) (acc : FVec Ideal S256x128 .f32)
    (sel oh : FVec Ideal S256x256 .f32) (dt : FVec Ideal S256x64 .f32) (h : State D t base wd w2 b2 n P last d acc sel oh dt)
    (ta : FVec Ideal S256x64 .f32) (fe ef : Vec Ideal S256x128 .f32) (rel : Vec Ideal S256x256 .i32)
    (e : Fin 16 → Vec Ideal S1x1x1 .f32) (w : Fin 16 → EReal) (g b : Vec Ideal S1x128 .f32)
    (hleft : ∀ (q : Fin 256) (l : Fin 128), t (ix2 q ⟨l.val, by omega⟩) = fe (ix2 q l))
    (hright : ∀ (q : Fin 256) (k : Fin 64), t (ix2 q ⟨128 + k.val, by omega⟩) = ta (ix2 q k))
    (hrel : ∀ i j, (rel (ix2 i j)).toNat < 16) (he : ∀ k, e k (ix3 0 0 0) = w k) (p : Fin 256) (o : Fin 128) :
    k0_pay1
      (k0_pay39 sel (k0_pay8 base acc oh dt t w2 b2) (k0_pay32 rel) (k0_pay33 rel) (k0_pay34 rel) (k0_pay35 rel)
        (k0_pay37 (k0_pay32 rel) (k0_pay33 rel) (k0_pay34 rel) (k0_pay36 (e 15)) (e 14) (e 13) (e 12) (e 11) (e 10) (e 9) (e 8))
        (k0_pay38 (k0_pay32 rel) (e 7) (e 6)) (e 5) (e 4) (e 3) (e 2) (e 1) (e 0) ef fe ef)
      (k0_pay40 sel (k0_pay8 base acc oh dt t w2 b2) (k0_pay32 rel) (k0_pay33 rel) (k0_pay34 rel) (k0_pay35 rel)
        (k0_pay37 (k0_pay32 rel) (k0_pay33 rel) (k0_pay34 rel) (k0_pay36 (e 15)) (e 14) (e 13) (e 12) (e 11) (e 10) (e 9) (e 8))
        (k0_pay38 (k0_pay32 rel) (e 7) (e 6)) (e 5) (e 4) (e 3) (e 2) (e 1) (e 0) ef fe ef)
      (FloatOps.ofBits .f32 0x43000000#32) g b (ix3 0 p o) =
      normalize (fun l =>
          ∑ q ∈ P p, fe (ix2 q l) *
            output (fun k => ta (ix2 q k) + Ideal.sqrt (D p q) * wd (ix2 0 k) + base (ix2 p k))
              (fun k l => w2 (ix2 k l)) (fun l => b2 (ix2 0 l)) l
          + ∑ q ∈ P p, w ⟨(rel (ix2 p q)).toNat, hrel p q⟩ * ef (ix2 q l) + fe (ix2 p l) + ef (ix2 p l))
        (fun l => g (ix2 0 l)) (fun l => b (ix2 0 l)) o := by
  refine (normalize_apply _ _ g b p o (rowsum_apply _ _ _ _ _ _ _ _ _ _ _ _ _ _ _ _ _ p)).trans ?_
  refine congrArg (fun f => normalize f _ _ o) (funext fun l => ?_)
  refine (residual_apply _ _ rel e _ _ (P p) p l (h.sel_eq p) (hrel p)).trans ?_
  rw [acc_apply D t _ wd w2 b2 _ _ _ p (last p) l (h.oh_eq p) (h.dt_eq p), h.acc_eq, Finset.sum_erase_add _ _ (h.mem p)]
  simp only [he]
  refine congrArg (fun z => z + _ + _ + _) (Finset.sum_congr rfl fun q _ => ?_)
  unfold message output
  simp only [hleft, hright]

end Cert.KernelIdeal.Block

end
-- ==== Proof.KernelIdeal.Loads.lean ====
/- Loads and stores of one block: a load of a whole buffer reads its contents, the load of a row or of one entry reads
   that row or entry, and the buffer the features and the neighbours' shares are stored in reads back as the two side by
   side. -/
module

public import proofs.«01_k».proof.Proof.KernelIdeal.Blocks
public import proofs.«01_k».proof.Proof.KernelIdeal.Parts
public import Idealize.ShloMosaic.Lib.VecWindow
public import Idealize.ShloMosaic.Lib.WritesUnit

@[expose] public section

set_option maxRecDepth 16384

noncomputable section

namespace Cert.KernelIdeal.Block

open Idealize.ShloMosaic Cert.KernelIdeal Cert.KernelIdeal.Gen

/-- A load of a whole buffer reads its contents. -/
theorem load_whole {S : Shape} {e : EltTy} (m : Memref sig .tc .vmem S e) (h : m.IsWhole) (x : S.Idx → Elt Ideal e)
    {off : Fin S.rank → ℕ} (inb : ∀ a, off a + S.size a ≤ S.size a) :
    View.readAt (Elt Ideal) m.view (Rect.unit off S.size inb).toLoadRect (h.unread x) = x := by
  rw [View.readAt_full, Memref.IsWhole.read_unread]

theorem load_S1x256x512 (m : Memref sig .tc .vmem S1x256x512 .f32) (h : m.IsWhole) (x : Vec Ideal S1x256x512 .f32)
    (inb : ∀ a, (![0, 0, 0] : Fin 3 → ℕ) a + (![1, 256, 512] : Fin 3 → ℕ) a ≤ S1x256x512.size a) :
    View.readAt (Elt Ideal) m.view (Rect.unit (s := S1x256x512) ![0, 0, 0] ![1, 256, 512] inb).toLoadRect (h.unread x) = x := load_whole m h x inb

theorem load_S1x256x8 (m : Memref sig .tc .vmem S1x256x8 .f32) (h : m.IsWhole) (x : Vec Ideal S1x256x8 .f32)
    (inb : ∀ a, (![0, 0, 0] : Fin 3 → ℕ) a + (![1, 256, 8] : Fin 3 → ℕ) a ≤ S1x256x8.size a) :
    View.readAt (Elt Ideal) m.view (Rect.unit (s := S1x256x8) ![0, 0, 0] ![1, 256, 8] inb).toLoadRect (h.unread x) = x := load_whole m h x inb

theorem load_S256x256 (m : Memref sig .tc .vmem S256x256 .i32) (h : m.IsWhole) (x : Vec Ideal S256x256 .i32)
    (inb : ∀ a, (![0, 0] : Fin 2 → ℕ) a + (![256, 256] : Fin 2 → ℕ) a ≤ S256x256.size a) :
    View.readAt (Elt Ideal) m.view (Rect.unit (s := S256x256) ![0, 0] ![256, 256] inb).toLoadRect (h.unread x) = x := load_whole m h x inb

theorem load_S8x64 (m : Memref sig .tc .vmem S8x64 .f32) (h : m.IsWhole) (x : Vec Ideal S8x64 .f32)
    (inb : ∀ a, (![0, 0] : Fin 2 → ℕ) a + (![8, 64] : Fin 2 → ℕ) a ≤ S8x64.size a) :
    View.readAt (Elt Ideal) m.view (Rect.unit (s := S8x64) ![0, 0] ![8, 64] inb).toLoadRect (h.unread x) = x := load_whole m h x inb

theorem load_S1x64 (m : Memref sig .tc .vmem S1x64 .f32) (h : m.IsWhole) (x : Vec Ideal S1x64 .f32)
    (inb : ∀ a, (![0, 0] : Fin 2 → ℕ) a + (![1, 64] : Fin 2 → ℕ) a ≤ S1x64.size a) :
    View.readAt (Elt Ideal) m.view (Rect.unit (s := S1x64) ![0, 0] ![1, 64] inb).toLoadRect (h.unread x) = x := load_whole m h x inb

theorem load_S64x128 (m : Memref sig .tc .vmem S64x128 .f32) (h : m.IsWhole) (x : Vec Ideal S64x128 .f32)
    (inb : ∀ a, (![0, 0] : Fin 2 → ℕ) a + (![64, 128] : Fin 2 → ℕ) a ≤ S64x128.size a) :
    View.readAt (Elt Ideal) m.view (Rect.unit (s := S64x128) ![0, 0] ![64, 128] inb).toLoadRect (h.unread x) = x := load_whole m h x inb

theorem load_S1x128 (m : Memref sig .tc .vmem S1x128 .f32) (h : m.IsWhole) (x : Vec Ideal S1x128 .f32)
    (inb : ∀ a, (![0, 0] : Fin 2 → ℕ) a + (![1, 128] : Fin 2 → ℕ) a ≤ S1x128.size a) :
    View.readAt (Elt Ideal) m.view (Rect.unit (s := S1x128) ![0, 0] ![1, 128] inb).toLoadRect (h.unread x) = x := load_whole m h x inb

theorem load_S512x256 (m : Memref sig .tc .vmem S512x256 .f32) (h : m.IsWhole) (x : Vec Ideal S512x256 .f32)
    (inb : ∀ a, (![0, 0] : Fin 2 → ℕ) a + (![512, 256] : Fin 2 → ℕ) a ≤ S512x256.size a) :
    View.readAt (Elt Ideal) m.view (Rect.unit (s := S512x256) ![0, 0] ![512, 256] inb).toLoadRect (h.unread x) = x := load_whole m h x inb

theorem load_S1x256 (m : Memref sig .tc .vmem S1x256 .f32) (h : m.IsWhole) (x : Vec Ideal S1x256 .f32)
    (inb : ∀ a, (![0, 0] : Fin 2 → ℕ) a + (![1, 256] : Fin 2 → ℕ) a ≤ S1x256.size a) :
    View.readAt (Elt Ideal) m.view (Rect.unit (s := S1x256) ![0, 0] ![1, 256] inb).toLoadRect (h.unread x) = x := load_whole m h x inb

theorem load_S256x128 (m : Memref sig .tc .vmem S256x128 .f32) (h : m.IsWhole) (x : Vec Ideal S256x128 .f32)
    (inb : ∀ a, (![0, 0] : Fin 2 → ℕ) a + (![256, 128] : Fin 2 → ℕ) a ≤ S256x128.size a) :
    View.readAt (Elt Ideal) m.view (Rect.unit (s := S256x128) ![0, 0] ![256, 128] inb).toLoadRect (h.unread x) = x := load_whole m h x inb

/-- A load of one row of the transposed coordinates. -/
theorem load_row (m : Memref sig .tc .vmem S1x8x256 .f32) (h : m.IsWhole) (x : Vec Ideal S1x8x256 .f32) (k : Fin 8)
    (inb : ∀ a, (![0, k.val, 0] : Fin 3 → ℕ) a + (![1, 1, 256] : Fin 3 → ℕ) a ≤ S1x8x256.size a) (j : Fin 256) :
    View.readAt (Elt Ideal) m.view (Rect.unit (s := S1x8x256) ![0, k.val, 0] ![1, 1, 256] inb).toLoadRect (h.unread x) (ix3 0 0 j)
      = x (ix3 0 k j) := by
  rw [View.readAt_apply, Memref.IsWhole.read_unread]
  congr 1
  funext a
  apply Fin.ext
  fin_cases a
  · rfl
  · show k.val + 1 * 0 = k.val; omega
  · show 0 + 1 * j.val = j.val; omega

/-- A load of one weight. -/
theorem load_weight (m : Memref sig .tc .vmem S1x1x16 .f32) (h : m.IsWhole) (x : Vec Ideal S1x1x16 .f32) (k : Fin 16)
    (inb : ∀ a, (![0, 0, k.val] : Fin 3 → ℕ) a + (![1, 1, 1] : Fin 3 → ℕ) a ≤ S1x1x16.size a) :
    View.readAt (Elt Ideal) m.view (Rect.unit (s := S1x1x16) ![0, 0, k.val] ![1, 1, 1] inb).toLoadRect (h.unread x) (ix3 0 0 0)
      = x (ix3 0 0 k) := by
  rw [View.readAt_apply, Memref.IsWhole.read_unread]
  congr 1
  funext a
  apply Fin.ext
  fin_cases a
  · rfl
  · rfl
  · show k.val + 1 * 0 = k.val; omega

/-- One weight's place is inside the buffer. -/
theorem weight_inb (k : Fin 16) (a : Fin 3) : (![0, 0, k.val] : Fin 3 → ℕ) a + (![1, 1, 1] : Fin 3 → ℕ) a ≤ S1x1x16.size a := by
  fin_cases a
  · exact le_rfl
  · exact le_rfl
  · show k.val + 1 ≤ 16; omega

/-- The loads of the sixteen weights. -/
def weights (m : Memref sig .tc .vmem S1x1x16 .f32) (h : m.IsWhole) (x : Vec Ideal S1x1x16 .f32) (k : Fin 16) : Vec Ideal S1x1x1 .f32 :=
  View.readAt (Elt Ideal) m.view (Rect.unit (s := S1x1x16) ![0, 0, k.val] ![1, 1, 1]
    (weight_inb k)).toLoadRect (h.unread x)

theorem load_w0 (m : Memref sig .tc .vmem S1x1x16 .f32) (h : m.IsWhole) (x : Vec Ideal S1x1x16 .f32)
    (inb : ∀ a, (![0, 0, 0] : Fin 3 → ℕ) a + (![1, 1, 1] : Fin 3 → ℕ) a ≤ S1x1x16.size a) :
    View.readAt (Elt Ideal) m.view (Rect.unit (s := S1x1x16) ![0, 0, 0] ![1, 1, 1] inb).toLoadRect (h.unread x) = weights m h x 0 := rfl

theorem load_w1 (m : Memref sig .tc .vmem S1x1x16 .f32) (h : m.IsWhole) (x : Vec Ideal S1x1x16 .f32)
    (inb : ∀ a, (![0, 0, 1] : Fin 3 → ℕ) a + (![1, 1, 1] : Fin 3 → ℕ) a ≤ S1x1x16.size a) :
    View.readAt (Elt Ideal) m.view (Rect.unit (s := S1x1x16) ![0, 0, 1] ![1, 1, 1] inb).toLoadRect (h.unread x) = weights m h x 1 := rfl

theorem load_w2 (m : Memref sig .tc .vmem S1x1x16 .f32) (h : m.IsWhole) (x : Vec Ideal S1x1x16 .f32)
    (inb : ∀ a, (![0, 0, 2] : Fin 3 → ℕ) a + (![1, 1, 1] : Fin 3 → ℕ) a ≤ S1x1x16.size a) :
    View.readAt (Elt Ideal) m.view (Rect.unit (s := S1x1x16) ![0, 0, 2] ![1, 1, 1] inb).toLoadRect (h.unread x) = weights m h x 2 := rfl

theorem load_w3 (m : Memref sig .tc .vmem S1x1x16 .f32) (h : m.IsWhole) (x : Vec Ideal S1x1x16 .f32)
    (inb : ∀ a, (![0, 0, 3] : Fin 3 → ℕ) a + (![1, 1, 1] : Fin 3 → ℕ) a ≤ S1x1x16.size a) :
    View.readAt (Elt Ideal) m.view (Rect.unit (s := S1x1x16) ![0, 0, 3] ![1, 1, 1] inb).toLoadRect (h.unread x) = weights m h x 3 := rfl

theorem load_w4 (m : Memref sig .tc .vmem S1x1x16 .f32) (h : m.IsWhole) (x : Vec Ideal S1x1x16 .f32)
    (inb : ∀ a, (![0, 0, 4] : Fin 3 → ℕ) a + (![1, 1, 1] : Fin 3 → ℕ) a ≤ S1x1x16.size a) :
    View.readAt (Elt Ideal) m.view (Rect.unit (s := S1x1x16) ![0, 0, 4] ![1, 1, 1] inb).toLoadRect (h.unread x) = weights m h x 4 := rfl

theorem load_w5 (m : Memref sig .tc .vmem S1x1x16 .f32) (h : m.IsWhole) (x : Vec Ideal S1x1x16 .f32)
    (inb : ∀ a, (![0, 0, 5] : Fin 3 → ℕ) a + (![1, 1, 1] : Fin 3 → ℕ) a ≤ S1x1x16.size a) :
    View.readAt (Elt Ideal) m.view (Rect.unit (s := S1x1x16) ![0, 0, 5] ![1, 1, 1] inb).toLoadRect (h.unread x) = weights m h x 5 := rfl

theorem load_w6 (m : Memref sig .tc .vmem S1x1x16 .f32) (h : m.IsWhole) (x : Vec Ideal S1x1x16 .f32)
    (inb : ∀ a, (![0, 0, 6] : Fin 3 → ℕ) a + (![1, 1, 1] : Fin 3 → ℕ) a ≤ S1x1x16.size a) :
    View.readAt (Elt Ideal) m.view (Rect.unit (s := S1x1x16) ![0, 0, 6] ![1, 1, 1] inb).toLoadRect (h.unread x) = weights m h x 6 := rfl

theorem load_w7 (m : Memref sig .tc .vmem S1x1x16 .f32) (h : m.IsWhole) (x : Vec Ideal S1x1x16 .f32)
    (inb : ∀ a, (![0, 0, 7] : Fin 3 → ℕ) a + (![1, 1, 1] : Fin 3 → ℕ) a ≤ S1x1x16.size a) :
    View.readAt (Elt Ideal) m.view (Rect.unit (s := S1x1x16) ![0, 0, 7] ![1, 1, 1] inb).toLoadRect (h.unread x) = weights m h x 7 := rfl

theorem load_w8 (m : Memref sig .tc .vmem S1x1x16 .f32) (h : m.IsWhole) (x : Vec Ideal S1x1x16 .f32)
    (inb : ∀ a, (![0, 0, 8] : Fin 3 → ℕ) a + (![1, 1, 1] : Fin 3 → ℕ) a ≤ S1x1x16.size a) :
    View.readAt (Elt Ideal) m.view (Rect.unit (s := S1x1x16) ![0, 0, 8] ![1, 1, 1] inb).toLoadRect (h.unread x) = weights m h x 8 := rfl

theorem load_w9 (m : Memref sig .tc .vmem S1x1x16 .f32) (h : m.IsWhole) (x : Vec Ideal S1x1x16 .f32)
    (inb : ∀ a, (![0, 0, 9] : Fin 3 → ℕ) a + (![1, 1, 1] : Fin 3 → ℕ) a ≤ S1x1x16.size a) :
    View.readAt (Elt Ideal) m.view (Rect.unit (s := S1x1x16) ![0, 0, 9] ![1, 1, 1] inb).toLoadRect (h.unread x) = weights m h x 9 := rfl

theorem load_w10 (m : Memref sig .tc .vmem S1x1x16 .f32) (h : m.IsWhole) (x : Vec Ideal S1x1x16 .f32)
    (inb : ∀ a, (![0, 0, 10] : Fin 3 → ℕ) a + (![1, 1, 1] : Fin 3 → ℕ) a ≤ S1x1x16.size a) :
    View.readAt (Elt Ideal) m.view (Rect.unit (s := S1x1x16) ![0, 0, 10] ![1, 1, 1] inb).toLoadRect (h.unread x) = weights m h x 10 := rfl

theorem load_w11 (m : Memref sig .tc .vmem S1x1x16 .f32) (h : m.IsWhole) (x : Vec Ideal S1x1x16 .f32)
    (inb : ∀ a, (![0, 0, 11] : Fin 3 → ℕ) a + (![1, 1, 1] : Fin 3 → ℕ) a ≤ S1x1x16.size a) :
    View.readAt (Elt Ideal) m.view (Rect.unit (s := S1x1x16) ![0, 0, 11] ![1, 1, 1] inb).toLoadRect (h.unread x) = weights m h x 11 := rfl

theorem load_w12 (m : Memref sig .tc .vmem S1x1x16 .f32) (h : m.IsWhole) (x : Vec Ideal S1x1x16 .f32)
    (inb : ∀ a, (![0, 0, 12] : Fin 3 → ℕ) a + (![1, 1, 1] : Fin 3 → ℕ) a ≤ S1x1x16.size a) :
    View.readAt (Elt Ideal) m.view (Rect.unit (s := S1x1x16) ![0, 0, 12] ![1, 1, 1] inb).toLoadRect (h.unread x) = weights m h x 12 := rfl

theorem load_w13 (m : Memref sig .tc .vmem S1x1x16 .f32) (h : m.IsWhole) (x : Vec Ideal S1x1x16 .f32)
    (inb : ∀ a, (![0, 0, 13] : Fin 3 → ℕ) a + (![1, 1, 1] : Fin 3 → ℕ) a ≤ S1x1x16.size a) :
    View.readAt (Elt Ideal) m.view (Rect.unit (s := S1x1x16) ![0, 0, 13] ![1, 1, 1] inb).toLoadRect (h.unread x) = weights m h x 13 := rfl

theorem load_w14 (m : Memref sig .tc .vmem S1x1x16 .f32) (h : m.IsWhole) (x : Vec Ideal S1x1x16 .f32)
    (inb : ∀ a, (![0, 0, 14] : Fin 3 → ℕ) a + (![1, 1, 1] : Fin 3 → ℕ) a ≤ S1x1x16.size a) :
    View.readAt (Elt Ideal) m.view (Rect.unit (s := S1x1x16) ![0, 0, 14] ![1, 1, 1] inb).toLoadRect (h.unread x) = weights m h x 14 := rfl

theorem load_w15 (m : Memref sig .tc .vmem S1x1x16 .f32) (h : m.IsWhole) (x : Vec Ideal S1x1x16 .f32)
    (inb : ∀ a, (![0, 0, 15] : Fin 3 → ℕ) a + (![1, 1, 1] : Fin 3 → ℕ) a ≤ S1x1x16.size a) :
    View.readAt (Elt Ideal) m.view (Rect.unit (s := S1x1x16) ![0, 0, 15] ![1, 1, 1] inb).toLoadRect (h.unread x) = weights m h x 15 := rfl

/-- The stored buffer: its first 128 columns are the features. -/
theorem stored_left (v : View sig .tc .vmem S256x192 .f32) (f : v.ty.Contents (Elt Ideal)) (ta : Vec Ideal S256x64 .f32) (fe : Vec Ideal S256x128 .f32)
    (inb : ∀ a, (![0, 128] : Fin 2 → ℕ) a + (![256, 64] : Fin 2 → ℕ) a ≤ S256x192.size a)
    (inb' : ∀ a, (![0, 0] : Fin 2 → ℕ) a + (![256, 128] : Fin 2 → ℕ) a ≤ S256x192.size a) (p : Fin 256) (c : Fin 128) :
    v.read (Elt Ideal) (v.writes (Elt Ideal) f [⟨Rect.unit (s := S256x192) ![0, 128] ![256, 64] inb, ta⟩,
      ⟨Rect.unit (s := S256x192) ![0, 0] ![256, 128] inb', fe⟩]) (ix2 p ⟨c.val, by omega⟩) = fe (ix2 p c) := by
  rw [View.read_writes_cons_unit_of_not_mem v f inb ta _ _ rfl (1 : Fin 2) (Or.inl c.isLt)]
  refine View.read_writes_cons_unit_of_mem v f inb' fe [] _ (ix2 p c) rfl ?_
  intro a
  fin_cases a
  · show p.val = 0 + p.val; omega
  · show c.val = 0 + c.val; omega

/-- … and its last 64 columns the neighbours' shares of the hidden layer. -/
theorem stored_right (v : View sig .tc .vmem S256x192 .f32) (f : v.ty.Contents (Elt Ideal)) (ta : Vec Ideal S256x64 .f32) (fe : Vec Ideal S256x128 .f32)
    (inb : ∀ a, (![0, 128] : Fin 2 → ℕ) a + (![256, 64] : Fin 2 → ℕ) a ≤ S256x192.size a)
    (inb' : ∀ a, (![0, 0] : Fin 2 → ℕ) a + (![256, 128] : Fin 2 → ℕ) a ≤ S256x192.size a) (p : Fin 256) (k : Fin 64) :
    v.read (Elt Ideal) (v.writes (Elt Ideal) f [⟨Rect.unit (s := S256x192) ![0, 128] ![256, 64] inb, ta⟩,
      ⟨Rect.unit (s := S256x192) ![0, 0] ![256, 128] inb', fe⟩]) (ix2 p ⟨128 + k.val, by omega⟩) = ta (ix2 p k) := by
  refine View.read_writes_cons_unit_of_mem v f inb ta _ _ (ix2 p k) rfl ?_
  intro a
  fin_cases a
  · show p.val = 0 + p.val; omega
  · rfl

/-- A load of the whole buffer, at one of its first 128 columns. -/
theorem load_left (v : View sig .tc .vmem S256x192 .f32) (ta : Vec Ideal S256x64 .f32) (fe : Vec Ideal S256x128 .f32)
    (inb : ∀ a, (![0, 128] : Fin 2 → ℕ) a + (![256, 64] : Fin 2 → ℕ) a ≤ S256x192.size a)
    (inb' : ∀ a, (![0, 0] : Fin 2 → ℕ) a + (![256, 128] : Fin 2 → ℕ) a ≤ S256x192.size a)
    (inb2 : ∀ a, (![0, 0] : Fin 2 → ℕ) a + (![256, 192] : Fin 2 → ℕ) a ≤ S256x192.size a) (p : Fin 256) (c : Fin 128) :
    v.readCov (Val := Elt Ideal) [⟨Rect.unit (s := S256x192) ![0, 128] ![256, 64] inb, ta⟩,
      ⟨Rect.unit (s := S256x192) ![0, 0] ![256, 128] inb', fe⟩] (Rect.unit (s := S256x192) ![0, 0] ![256, 192] inb2).toLoadRect
      (ix2 p ⟨c.val, by omega⟩) = fe (ix2 p c) := by
  refine Eq.trans ?_ (stored_left v v.junk ta fe inb inb' p c)
  show View.readAt (Elt Ideal) v (Rect.unit (s := S256x192) ![0, 0] S256x192.size inb2).toLoadRect _ _ = _
  rw [View.readAt_full]

/-- A load of the whole buffer, at one of its last 64 columns. -/
theorem load_right (v : View sig .tc .vmem S256x192 .f32) (ta : Vec Ideal S256x64 .f32) (fe : Vec Ideal S256x128 .f32)
    (inb : ∀ a, (![0, 128] : Fin 2 → ℕ) a + (![256, 64] : Fin 2 → ℕ) a ≤ S256x192.size a)
    (inb' : ∀ a, (![0, 0] : Fin 2 → ℕ) a + (![256, 128] : Fin 2 → ℕ) a ≤ S256x192.size a)
    (inb2 : ∀ a, (![0, 0] : Fin 2 → ℕ) a + (![256, 192] : Fin 2 → ℕ) a ≤ S256x192.size a) (p : Fin 256) (k : Fin 64) :
    v.readCov (Val := Elt Ideal) [⟨Rect.unit (s := S256x192) ![0, 128] ![256, 64] inb, ta⟩,
      ⟨Rect.unit (s := S256x192) ![0, 0] ![256, 128] inb', fe⟩] (Rect.unit (s := S256x192) ![0, 0] ![256, 192] inb2).toLoadRect
      (ix2 p ⟨128 + k.val, by omega⟩) = ta (ix2 p k) := by
  refine Eq.trans ?_ (stored_right v v.junk ta fe inb inb' p k)
  show View.readAt (Elt Ideal) v (Rect.unit (s := S256x192) ![0, 0] S256x192.size inb2).toLoadRect _ _ = _
  rw [View.readAt_full]

/-- A load of the buffer's first 128 columns reads the features. -/
theorem load_features (v : View sig .tc .vmem S256x192 .f32) (ta : Vec Ideal S256x64 .f32) (fe : Vec Ideal S256x128 .f32)
    (inb : ∀ a, (![0, 128] : Fin 2 → ℕ) a + (![256, 64] : Fin 2 → ℕ) a ≤ S256x192.size a)
    (inb' : ∀ a, (![0, 0] : Fin 2 → ℕ) a + (![256, 128] : Fin 2 → ℕ) a ≤ S256x192.size a) :
    v.readCov (Val := Elt Ideal) [⟨Rect.unit (s := S256x192) ![0, 128] ![256, 64] inb, ta⟩,
      ⟨Rect.unit (s := S256x192) ![0, 0] ![256, 128] inb', fe⟩] (Rect.unit (s := S256x192) ![0, 0] ![256, 128] inb').toLoadRect = fe := by
  funext x
  have hx : x = ix2 (x (0 : Fin 2)) (x (1 : Fin 2)) := by
    funext a; fin_cases a <;> rfl
  show v.read (Elt Ideal) _ _ = _
  refine Eq.trans ?_ ((stored_left v v.junk ta fe inb inb' (x (0 : Fin 2)) (x (1 : Fin 2))).trans (congrArg fe hx.symm))
  congr 1
  funext a
  apply Fin.ext
  fin_cases a
  · show 0 + 1 * (x (0 : Fin 2)).val = (x (0 : Fin 2)).val; omega
  · show 0 + 1 * (x (1 : Fin 2)).val = (x (1 : Fin 2)).val; omega

/-- A load of what was stored over the whole buffer. -/
theorem load_stored (v : View sig .tc .vmem S256x128 .f32) (w : Vec Ideal S256x128 .f32)
    (inb : ∀ a, (![0, 0] : Fin 2 → ℕ) a + (![256, 128] : Fin 2 → ℕ) a ≤ S256x128.size a) :
    v.readCov (Val := Elt Ideal) [⟨Rect.unit (s := S256x128) ![0, 0] ![256, 128] inb, w⟩]
      (Rect.unit (s := S256x128) ![0, 0] ![256, 128] inb).toLoadRect = w := View.readCov_full v inb inb w []

end Cert.KernelIdeal.Block

end
-- ==== Proof.KernelIdeal.BlockValue.lean ====
/- What one block computes: the normalized residual of every node, its messages taken over the seventeen columns the loop
   picked. -/
module

public import proofs.«01_k».proof.Proof.KernelIdeal.Blocks
public import proofs.«01_k».proof.Proof.KernelIdeal.Trip
public import proofs.«01_k».proof.Proof.KernelIdeal.Loads

@[expose] public section

set_option maxRecDepth 16384
set_option maxHeartbeats 1000000

noncomputable section

namespace Cert.KernelIdeal.Block

open Idealize.ShloMosaic Idealize.ShloMosaic.TcCoe Cert.KernelIdeal Cert.KernelIdeal.Gen Fusion

theorem block_value  (c : Dev nD) (i : grid0.Coords) (arg1 : Memref sig .tc .vmem S1x256x512 .f32) (harg1 : arg1.IsWhole) (arg2 : Memref sig .tc .vmem S1x256x8 .f32) (harg2 : arg2.IsWhole) (arg3 : Memref sig .tc .vmem S1x8x256 .f32) (harg3 : arg3.IsWhole) (arg4 : Memref sig .tc .vmem S256x256 .i32) (harg4 : arg4.IsWhole) (arg5 : Memref sig .tc .vmem S1x1x16 .f32) (harg5 : arg5.IsWhole) (arg6 : Memref sig .tc .vmem S1x256x512 .f32) (harg6 : arg6.IsWhole) (arg7 : Memref sig .tc .vmem S8x64 .f32) (harg7 : arg7.IsWhole) (arg8 : Memref sig .tc .vmem S8x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S512x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S512x256 .f32) (harg17 : arg17.IsWhole) (arg18 : Memref sig .tc .vmem S1x256 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x256x128 .f32) (harg23 : arg23.IsWhole) (arg24 : Memref sig .tc .vmem S256x192 .f32) (harg24 : arg24.IsWhole) (arg25 : Memref sig .tc .vmem S256x128 .f32) (harg25 : arg25.IsWhole)
    (x0 : Vec Ideal S1x256x512 .f32) (x1 : Vec Ideal S1x256x8 .f32) (x2 : Vec Ideal S1x8x256 .f32) (x3 : Vec Ideal S256x256 .i32) (x4 : Vec Ideal S1x1x16 .f32) (x5 : Vec Ideal S1x256x512 .f32) (x6 : Vec Ideal S8x64 .f32) (x7 : Vec Ideal S8x64 .f32) (x8 : Vec Ideal S1x64 .f32) (x9 : Vec Ideal S1x64 .f32) (x10 : Vec Ideal S64x128 .f32) (x11 : Vec Ideal S1x128 .f32) (x12 : Vec Ideal S512x256 .f32) (x13 : Vec Ideal S1x256 .f32) (x14 : Vec Ideal S256x128 .f32) (x15 : Vec Ideal S1x128 .f32) (x16 : Vec Ideal S512x256 .f32) (x17 : Vec Ideal S1x256 .f32) (x18 : Vec Ideal S256x128 .f32) (x19 : Vec Ideal S1x128 .f32) (x20 : Vec Ideal S1x128 .f32) (x21 : Vec Ideal S1x128 .f32)
    (u : Fin 256 → Fin 3 → ℝ) (hu : ∀ i (k : Fin 3), x1 (ix3 0 i (k.castLE (by omega))) = ((u i k : ℝ) : EReal))
    (hu' : ∀ (k : Fin 3) j, x2 (ix3 0 (k.castLE (by omega)) j) = ((u j k : ℝ) : EReal))
    (hrel : ∀ i j, (x3 (ix2 i j)).toNat < 16) :
    ∃ P : Fin 256 → Finset (Fin 256), (∀ p, Nearest.Low (sq u p) p (P p) ∧ (P p).card = 17) ∧ ∀ (p : Fin 256) (o : Fin 128),
      out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 (ix3 0 p o) =
        normalize (fun l =>
            ∑ q ∈ P p, k0_pay10 x0 x12 x13 x14 x15 (ix2 q l) *
              output (fun k => k0_pay11 x1 x6 (ix2 q k) + Ideal.sqrt (sq u p q) * x8 (ix2 0 k) + k0_pay15 (k0_pay9 x1) x7 x9 (ix2 p k))
                (fun k l => x10 (ix2 k l)) (fun l => x11 (ix2 0 l)) l
            + ∑ q ∈ P p, x4 (ix3 0 0 ⟨(x3 (ix2 p q)).toNat, hrel p q⟩) * k0_pay12 x5 x16 x17 x18 x19 (ix2 q l)
            + k0_pay10 x0 x12 x13 x14 x15 (ix2 p l) + k0_pay12 x5 x16 x17 x18 x19 (ix2 p l))
          (fun l => x20 (ix2 0 l)) (fun l => x21 (ix2 0 l)) o := by
  unfold out0_A_22 kernelRun0_A
  dsimp only
  rw [show ∀ (w : Vec Ideal S1x256x128 .f32), VO0_22.read (Elt Ideal) (VO0_22.writes (Elt Ideal) VO0_22.junk [⟨Rect.unit ![0, 0, 0] ![1, 256, 128] inb_S1x256x128_S1x256x128_0_0_0, w⟩]) = w from fun w => by
    rw [View.read_writes_junk_eq_canon]
    exact View.canon_unit_zero (S := S1x256x128) (by funext a; fin_cases a <;> rfl) _ w]
  simp only [Gen.kernelRun0_A.sl.r, Gen.kernelRun0_A.sl.r_1, Gen.kernelRun0_A.sl.r_2, Gen.kernelRun0_A.sl.r_3, Gen.kernelRun0_A.sl.r_4, Gen.kernelRun0_A.sl.r_5, Gen.kernelRun0_A.sl.r_6, Gen.kernelRun0_A.sl.r_7, Gen.kernelRun0_A.sl.r_8, Gen.kernelRun0_A.sl.r_9, Gen.kernelRun0_A.sl.r_10, Gen.kernelRun0_A.sl.r_11, Gen.kernelRun0_A.sl.r_12, Gen.kernelRun0_A.sl.r_13, Gen.kernelRun0_A.sl.r_14, Gen.kernelRun0_A.sl.r_15, Gen.kernelRun0_A.sl.r_16, Gen.kernelRun0_A.sl.r_17, Gen.kernelRun0_A.sl.r_18, Gen.kernelRun0_A.sl.r_19, Gen.kernelRun0_A.sl.v97, Gen.kernelRun0_A.sl.v104, Gen.kernelRun0_A.sl.v205, Gen.kernelRun0_A.sl.v208, Gen.kernelRun0_A.sl.cst_118, Gen.kernelRun0_A.sl.HS0_2, Gen.kernelRun0_A.sl.HS1_1, load_S1x256x512, load_S1x256x8, load_S256x256, load_S8x64, load_S1x64, load_S64x128, load_S1x128, load_S512x256, load_S1x256, load_S256x128, load_w0, load_w1, load_w2, load_w3, load_w4, load_w5, load_w6, load_w7, load_w8, load_w9, load_w10, load_w11, load_w12, load_w13, load_w14, load_w15, load_features, load_stored]
  rw [last_stage]
  generalize ht : arg24.view.readCov (Val := Elt Ideal) _ _ = t
  have hleft : ∀ (q : Fin 256) (l : Fin 128), t (ix2 q ⟨l.val, by omega⟩) = k0_pay10 x0 x12 x13 x14 x15 (ix2 q l) := fun q l => by
    rw [← ht]; exact load_left _ _ _ _ _ _ q l
  have hright : ∀ (q : Fin 256) (k : Fin 64), t (ix2 q ⟨128 + k.val, by omega⟩) = k0_pay11 x1 x6 (ix2 q k) := fun q k => by
    rw [← ht]; exact load_right _ _ _ _ _ _ q k
  have hinit := start u t (k0_pay9 x1) x7 x9 x8 x10 x11 (k0_pay12 x5 x16 x17 x18 x19) _ (dist_apply x1
    (View.readAt (Elt Ideal) arg3.view (Rect.unit (s := S1x8x256) ![0, 0, 0] ![1, 1, 256] inb_S1x8x256_S1x1x256_0_0_0).toLoadRect (harg3.unread x2))
    (View.readAt (Elt Ideal) arg3.view (Rect.unit (s := S1x8x256) ![0, 1, 0] ![1, 1, 256] inb_S1x8x256_S1x1x256_0_1_0).toLoadRect (harg3.unread x2))
    (View.readAt (Elt Ideal) arg3.view (Rect.unit (s := S1x8x256) ![0, 2, 0] ![1, 1, 256] inb_S1x8x256_S1x1x256_0_2_0).toLoadRect (harg3.unread x2))
    u hu (fun j => (load_row arg3 harg3 x2 0 _ j).trans (hu' 0 j)) (fun j => (load_row arg3 harg3 x2 1 _ j).trans (hu' 1 j))
    (fun j => (load_row arg3 harg3 x2 2 _ j).trans (hu' 2 j)))
  have hinit' : Carried (sq u) t (k0_pay15 (k0_pay9 x1) x7 x9) x8 x10 x11 1
    (k0_pay19 (k0_pay9 x1) (k0_pay13 (k0_pay9 x1) (View.readAt (Elt Ideal) arg3.view (Rect.unit (s := S1x8x256) ![0, 0, 0] ![1, 1, 256] inb_S1x8x256_S1x1x256_0_0_0).toLoadRect (harg3.unread x2))) (k0_pay14 (k0_pay9 x1)) (View.readAt (Elt Ideal) arg3.view (Rect.unit (s := S1x8x256) ![0, 1, 0] ![1, 1, 256] inb_S1x8x256_S1x1x256_0_1_0).toLoadRect (harg3.unread x2)) (View.readAt (Elt Ideal) arg3.view (Rect.unit (s := S1x8x256) ![0, 2, 0] ![1, 1, 256] inb_S1x8x256_S1x1x256_0_2_0).toLoadRect (harg3.unread x2)),
      k0_pay20 (k0_pay12 x5 x16 x17 x18 x19), k0_pay18, k0_pay18, k0_pay21 (k0_pay9 x1) x7 x9) := by
    unfold Carried
    dsimp only
    exact ⟨_, _, hinit⟩
  have hD : ∀ i j, sq u i j < ⊤ := fun i j => EReal.coe_lt_top _
  have h8 : Scf.trips (0#32) (Scalar.addi 0#32 8#32) 1#32 = 8 := by decide
  rw [h8]
  generalize hs : st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ _ _ _ _ _ _ _ _ 8 = s
  have hst : Carried (sq u) t (k0_pay15 (k0_pay9 x1) x7 x9) x8 x10 x11 17 s := by
    rw [← hs]
    exact st_carried Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (k0_pay9 x1)
      (k0_pay13 (k0_pay9 x1) (View.readAt (Elt Ideal) arg3.view (Rect.unit (s := S1x8x256) ![0, 0, 0] ![1, 1, 256] inb_S1x8x256_S1x1x256_0_0_0).toLoadRect (harg3.unread x2)))
      (k0_pay14 (k0_pay9 x1))
      (View.readAt (Elt Ideal) arg3.view (Rect.unit (s := S1x8x256) ![0, 1, 0] ![1, 1, 256] inb_S1x8x256_S1x1x256_0_1_0).toLoadRect (harg3.unread x2))
      x7 x9 (harg9.unread x8) (harg11.unread x10) (harg12.unread x11) _ _ t ht.symm x8 (load_S1x64 arg9 harg9 x8 _).symm x10 (load_S64x128 arg11 harg11 x10 _).symm
      x11 (load_S1x128 arg12 harg12 x11 _).symm (sq u) hD hinit' 8 le_rfl
  obtain ⟨P, last, h⟩ := hst
  refine ⟨P, fun p => ⟨h.low p, h.card p⟩, fun p o => ?_⟩
  exact assemble (sq u) t (k0_pay15 (k0_pay9 x1) x7 x9) x8 x10 x11 17 P last _ _ _ _ _ h (k0_pay11 x1 x6)
    (k0_pay10 x0 x12 x13 x14 x15) (k0_pay12 x5 x16 x17 x18 x19) x3 (weights arg5 harg5 x4) (fun k => x4 (ix3 0 0 k)) x20 x21 hleft hright hrel
    (fun k => load_weight arg5 harg5 x4 k _) p o

end Cert.KernelIdeal.Block

end
-- ==== Proof.KernelIdeal.Operands.lean ====
/- The operands of the launch at an index: each window's block at a grid point, read back to the program's arguments. The
   coordinates are padded with zeros to eight, the first layer's matrix is cut into its parts, matrices are transposed. -/
module

public import proofs.«01_k».proof.Proof.KernelIdeal.Blocks
public import proofs.«01_k».proof.Proof.KernelIdeal.BlockValue
public import proofs.«01_k».proof.Proof.Math.Layer
public import Idealize.ShloMosaic.Lib.StableHlo.ReadAt
public import Idealize.ShloMosaic.Lib.Pipeline.ValueKit

@[expose] public section

set_option maxRecDepth 16384

noncomputable section

namespace Cert.KernelIdeal.Value

open Idealize.ShloMosaic Idealize.ShloMosaic.StableHlo Idealize.ShloMosaic.TcCoe Idealize.SL.Sem Cert.KernelIdeal Cert.KernelIdeal.Gen

variable (m : (ℓ : Loc nD τ sig) → Buf (Elt Ideal) ℓ)

/-- The zero word of the integers is the number zero. -/
theorem sitofp_zero : (FloatOps.sitofp (F := Ideal) FTy.f32 (0#32)) = (0 : EReal) := by
  show (((0#32 : BitVec 32).toInt : ℝ) : EReal) = 0
  simp

/-- The blocks of the sentences' windows run with the grid point; every other window is one block. -/
theorem index_at : ∀ t : Fin cfg0.N, win0_0.index t = ![t.val, 0, 0] ∧ win0_1.index t = ![t.val, 0, 0] ∧ win0_2.index t = ![t.val, 0, 0] ∧ win0_3.index t = ![0, 0] ∧ win0_4.index t = ![t.val, 0, 0] ∧ win0_5.index t = ![t.val, 0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![t.val, 0, 0] :=
  (by decide +kernel : ∀ t : Fin grid0.N, win0_0.index t = ![t.val, 0, 0] ∧ win0_1.index t = ![t.val, 0, 0] ∧ win0_2.index t = ![t.val, 0, 0] ∧ win0_3.index t = ![0, 0] ∧ win0_4.index t = ![t.val, 0, 0] ∧ win0_5.index t = ![t.val, 0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![t.val, 0, 0])

/-- The padded coordinates: the coordinates, and zeros above the third. -/
theorem V_coord (c : Dev nD) (s : Fin 32) (i : Fin 256) (k : Fin 8) : V m c main_call0_v0 (ix3 s i k) = (if h : k.val < 3 then m ((c : Thread nD τ).loc main_arg1) (ix3 s i ⟨k.val, h⟩) else 0 : EReal) := by
  unfold V hostOps0
  after_reads_at
  simp only [sitofp_zero]

/-- The padded coordinates, transposed. -/
theorem V_coordT (c : Dev nD) (s : Fin 32) (k : Fin 8) (i : Fin 256) : V m c main_call0_v12 (ix3 s k i) = (if h : k.val < 3 then m ((c : Thread nD τ).loc main_arg1) (ix3 s i ⟨k.val, h⟩) else 0 : EReal) := by
  unfold V hostOps0
  after_reads_at
  simp only [sitofp_zero]

/-- The edge weights of a sentence. -/
theorem V_weights (c : Dev nD) (s : Fin 32) (k : Fin 16) : V m c main_call0_v1 (ix3 s 0 k) = m ((c : Thread nD τ).loc main_arg3) (ix2 s k) := by
  unfold V hostOps0
  after_reads_at

/-- The first layer's matrix of the pair network. -/
def firstLayer (c : Dev nD) (k : Fin 64) (a : Fin 10) : EReal := m ((c : Thread nD τ).loc main_arg5) (ix2 k a)

/-- The matrix of the neighbour's coordinates: rows 0 to 2 plus rows 6 to 8, padded with zeros. -/
theorem V_left (c : Dev nD) (x : Fin 8) (k : Fin 64) : V m c main_call0_v6 (ix2 x k) = (if h : x.val < 3 then firstLayer m c k ⟨x.val, by omega⟩ + firstLayer m c k ⟨6 + x.val, by omega⟩ else 0 : EReal) := by
  unfold V hostOps0
  after_reads_at
  simp only [sitofp_zero]
  rfl

/-- The matrix of the node's own coordinates: rows 3 to 5 less rows 6 to 8, padded with zeros. -/
theorem V_right (c : Dev nD) (x : Fin 8) (k : Fin 64) : V m c main_call0_v10 (ix2 x k) = (if h : x.val < 3 then firstLayer m c k ⟨3 + x.val, by omega⟩ - firstLayer m c k ⟨6 + x.val, by omega⟩ else 0 : EReal) := by
  unfold V hostOps0
  after_reads_at
  simp only [sitofp_zero]
  rfl

/-- The row the distance is multiplied by. -/
theorem V_dist (c : Dev nD) (k : Fin 64) : V m c main_call0_v11 (ix2 0 k) = m ((c : Thread nD τ).loc main_arg5) (ix2 k 9) := by
  unfold V hostOps0
  after_reads_at

/-- A vector laid as one row. -/
theorem V_arg6 (c : Dev nD) (k : Fin 64) : V m c main_call0_v13 (ix2 0 k) = m ((c : Thread nD τ).loc main_arg6) (ix1 k) := by
  unfold V hostOps0
  after_reads_at

/-- A vector laid as one row. -/
theorem V_arg8 (c : Dev nD) (k : Fin 128) : V m c main_call0_v15 (ix2 0 k) = m ((c : Thread nD τ).loc main_arg8) (ix1 k) := by
  unfold V hostOps0
  after_reads_at

/-- A vector laid as one row. -/
theorem V_arg10 (c : Dev nD) (k : Fin 256) : V m c main_call0_v17 (ix2 0 k) = m ((c : Thread nD τ).loc main_arg10) (ix1 k) := by
  unfold V hostOps0
  after_reads_at

/-- A vector laid as one row. -/
theorem V_arg12 (c : Dev nD) (k : Fin 128) : V m c main_call0_v19 (ix2 0 k) = m ((c : Thread nD τ).loc main_arg12) (ix1 k) := by
  unfold V hostOps0
  after_reads_at

/-- A vector laid as one row. -/
theorem V_arg14 (c : Dev nD) (k : Fin 256) : V m c main_call0_v21 (ix2 0 k) = m ((c : Thread nD τ).loc main_arg14) (ix1 k) := by
  unfold V hostOps0
  after_reads_at

/-- A vector laid as one row. -/
theorem V_arg16 (c : Dev nD) (k : Fin 128) : V m c main_call0_v23 (ix2 0 k) = m ((c : Thread nD τ).loc main_arg16) (ix1 k) := by
  unfold V hostOps0
  after_reads_at

/-- A vector laid as one row. -/
theorem V_arg17 (c : Dev nD) (k : Fin 128) : V m c main_call0_v24 (ix2 0 k) = m ((c : Thread nD τ).loc main_arg17) (ix1 k) := by
  unfold V hostOps0
  after_reads_at

/-- A vector laid as one row. -/
theorem V_arg18 (c : Dev nD) (k : Fin 128) : V m c main_call0_v25 (ix2 0 k) = m ((c : Thread nD τ).loc main_arg18) (ix1 k) := by
  unfold V hostOps0
  after_reads_at

/-- A matrix, transposed. -/
theorem V_arg7 (c : Dev nD) (x : Fin 64) (k : Fin 128) : V m c main_call0_v14 (ix2 x k) = m ((c : Thread nD τ).loc main_arg7) (ix2 k x) := by
  unfold V hostOps0
  after_reads_at

/-- A matrix, transposed. -/
theorem V_arg9 (c : Dev nD) (x : Fin 512) (k : Fin 256) : V m c main_call0_v16 (ix2 x k) = m ((c : Thread nD τ).loc main_arg9) (ix2 k x) := by
  unfold V hostOps0
  after_reads_at

/-- A matrix, transposed. -/
theorem V_arg11 (c : Dev nD) (x : Fin 256) (k : Fin 128) : V m c main_call0_v18 (ix2 x k) = m ((c : Thread nD τ).loc main_arg11) (ix2 k x) := by
  unfold V hostOps0
  after_reads_at

/-- A matrix, transposed. -/
theorem V_arg13 (c : Dev nD) (x : Fin 512) (k : Fin 256) : V m c main_call0_v20 (ix2 x k) = m ((c : Thread nD τ).loc main_arg13) (ix2 k x) := by
  unfold V hostOps0
  after_reads_at

/-- A matrix, transposed. -/
theorem V_arg15 (c : Dev nD) (x : Fin 256) (k : Fin 128) : V m c main_call0_v22 (ix2 x k) = m ((c : Thread nD τ).loc main_arg15) (ix2 k x) := by
  unfold V hostOps0
  after_reads_at

/-- The block of this window at a point. -/
theorem read0 (c : Dev nD) (t : Fin cfg0.N) (i : Fin 256) (k : Fin 512) : iblk m c 0 t (ix3 0 i k) = V m c main_arg0 (ix3 ⟨t.val, t.isLt⟩ i k) := by
  blk_ext [iblk, index_at t]

/-- The block of this window at a point. -/
theorem read1 (c : Dev nD) (t : Fin cfg0.N) (i : Fin 256) (k : Fin 8) : iblk m c 1 t (ix3 0 i k) = V m c main_call0_v0 (ix3 ⟨t.val, t.isLt⟩ i k) := by
  blk_ext [iblk, index_at t]

/-- The block of this window at a point. -/
theorem read2 (c : Dev nD) (t : Fin cfg0.N) (k : Fin 8) (i : Fin 256) : iblk m c 2 t (ix3 0 k i) = V m c main_call0_v12 (ix3 ⟨t.val, t.isLt⟩ k i) := by
  blk_ext [iblk, index_at t]

/-- The block of this window at a point. -/
theorem read3 (c : Dev nD) (t : Fin cfg0.N) (i j : Fin 256) : iblk m c 3 t (ix2 i j) = V m c main_arg2 (ix2 i j) := by
  blk_ext [iblk, index_at t]

/-- The block of this window at a point. -/
theorem read4 (c : Dev nD) (t : Fin cfg0.N) (k : Fin 16) : iblk m c 4 t (ix3 0 0 k) = V m c main_call0_v1 (ix3 ⟨t.val, t.isLt⟩ 0 k) := by
  blk_ext [iblk, index_at t]

/-- The block of this window at a point. -/
theorem read5 (c : Dev nD) (t : Fin cfg0.N) (i : Fin 256) (k : Fin 512) : iblk m c 5 t (ix3 0 i k) = V m c main_arg4 (ix3 ⟨t.val, t.isLt⟩ i k) := by
  blk_ext [iblk, index_at t]

/-- The block of this window at a point. -/
theorem read6 (c : Dev nD) (t : Fin cfg0.N) (x : Fin 8) (k : Fin 64) : iblk m c 6 t (ix2 x k) = V m c main_call0_v6 (ix2 x k) := by
  blk_ext [iblk, index_at t]

/-- The block of this window at a point. -/
theorem read7 (c : Dev nD) (t : Fin cfg0.N) (x : Fin 8) (k : Fin 64) : iblk m c 7 t (ix2 x k) = V m c main_call0_v10 (ix2 x k) := by
  blk_ext [iblk, index_at t]

/-- The block of this window at a point. -/
theorem read8 (c : Dev nD) (t : Fin cfg0.N) (k : Fin 64) : iblk m c 8 t (ix2 0 k) = V m c main_call0_v11 (ix2 0 k) := by
  blk_ext [iblk, index_at t]

/-- The block of this window at a point. -/
theorem read9 (c : Dev nD) (t : Fin cfg0.N) (k : Fin 64) : iblk m c 9 t (ix2 0 k) = V m c main_call0_v13 (ix2 0 k) := by
  blk_ext [iblk, index_at t]

/-- The block of this window at a point. -/
theorem read11 (c : Dev nD) (t : Fin cfg0.N) (k : Fin 128) : iblk m c 11 t (ix2 0 k) = V m c main_call0_v15 (ix2 0 k) := by
  blk_ext [iblk, index_at t]

/-- The block of this window at a point. -/
theorem read13 (c : Dev nD) (t : Fin cfg0.N) (k : Fin 256) : iblk m c 13 t (ix2 0 k) = V m c main_call0_v17 (ix2 0 k) := by
  blk_ext [iblk, index_at t]

/-- The block of this window at a point. -/
theorem read15 (c : Dev nD) (t : Fin cfg0.N) (k : Fin 128) : iblk m c 15 t (ix2 0 k) = V m c main_call0_v19 (ix2 0 k) := by
  blk_ext [iblk, index_at t]

/-- The block of this window at a point. -/
theorem read17 (c : Dev nD) (t : Fin cfg0.N) (k : Fin 256) : iblk m c 17 t (ix2 0 k) = V m c main_call0_v21 (ix2 0 k) := by
  blk_ext [iblk, index_at t]

/-- The block of this window at a point. -/
theorem read19 (c : Dev nD) (t : Fin cfg0.N) (k : Fin 128) : iblk m c 19 t (ix2 0 k) = V m c main_call0_v23 (ix2 0 k) := by
  blk_ext [iblk, index_at t]

/-- The block of this window at a point. -/
theorem read20 (c : Dev nD) (t : Fin cfg0.N) (k : Fin 128) : iblk m c 20 t (ix2 0 k) = V m c main_call0_v24 (ix2 0 k) := by
  blk_ext [iblk, index_at t]

/-- The block of this window at a point. -/
theorem read21 (c : Dev nD) (t : Fin cfg0.N) (k : Fin 128) : iblk m c 21 t (ix2 0 k) = V m c main_call0_v25 (ix2 0 k) := by
  blk_ext [iblk, index_at t]

/-- The block of this window at a point. -/
theorem read10 (c : Dev nD) (t : Fin cfg0.N) (x : Fin 64) (k : Fin 128) : iblk m c 10 t (ix2 x k) = V m c main_call0_v14 (ix2 x k) := by
  blk_ext [iblk, index_at t]

/-- The block of this window at a point. -/
theorem read12 (c : Dev nD) (t : Fin cfg0.N) (x : Fin 512) (k : Fin 256) : iblk m c 12 t (ix2 x k) = V m c main_call0_v16 (ix2 x k) := by
  blk_ext [iblk, index_at t]

/-- The block of this window at a point. -/
theorem read14 (c : Dev nD) (t : Fin cfg0.N) (x : Fin 256) (k : Fin 128) : iblk m c 14 t (ix2 x k) = V m c main_call0_v18 (ix2 x k) := by
  blk_ext [iblk, index_at t]

/-- The block of this window at a point. -/
theorem read16 (c : Dev nD) (t : Fin cfg0.N) (x : Fin 512) (k : Fin 256) : iblk m c 16 t (ix2 x k) = V m c main_call0_v20 (ix2 x k) := by
  blk_ext [iblk, index_at t]

/-- The block of this window at a point. -/
theorem read18 (c : Dev nD) (t : Fin cfg0.N) (x : Fin 256) (k : Fin 128) : iblk m c 18 t (ix2 x k) = V m c main_call0_v22 (ix2 x k) := by
  blk_ext [iblk, index_at t]

/-- The inputs as a launch finds them on a device. -/
def inputs (c : Dev nD) : Fusion.Inputs where
  feat := fun x y z => m ((c : Thread nD τ).loc main_arg0) (ix3 x y z)
  coord := fun x y z => m ((c : Thread nD τ).loc main_arg1) (ix3 x y z)
  relation := fun x y => m ((c : Thread nD τ).loc main_arg2) (ix2 x y)
  weight := fun x y => m ((c : Thread nD τ).loc main_arg3) (ix2 x y)
  fuse := fun x y z => m ((c : Thread nD τ).loc main_arg4) (ix3 x y z)
  wr1 := fun x y => m ((c : Thread nD τ).loc main_arg5) (ix2 x y)
  br1 := fun x => m ((c : Thread nD τ).loc main_arg6) (ix1 x)
  wr2 := fun x y => m ((c : Thread nD τ).loc main_arg7) (ix2 x y)
  br2 := fun x => m ((c : Thread nD τ).loc main_arg8) (ix1 x)
  wf1 := fun x y => m ((c : Thread nD τ).loc main_arg9) (ix2 x y)
  bf1 := fun x => m ((c : Thread nD τ).loc main_arg10) (ix1 x)
  wf2 := fun x y => m ((c : Thread nD τ).loc main_arg11) (ix2 x y)
  bf2 := fun x => m ((c : Thread nD τ).loc main_arg12) (ix1 x)
  wg1 := fun x y => m ((c : Thread nD τ).loc main_arg13) (ix2 x y)
  bg1 := fun x => m ((c : Thread nD τ).loc main_arg14) (ix1 x)
  wg2 := fun x y => m ((c : Thread nD τ).loc main_arg15) (ix2 x y)
  bg2 := fun x => m ((c : Thread nD τ).loc main_arg16) (ix1 x)
  gamma := fun x => m ((c : Thread nD τ).loc main_arg17) (ix1 x)
  beta := fun x => m ((c : Thread nD τ).loc main_arg18) (ix1 x)

/-- The sentence of a grid point. -/
def sen (t : Fin cfg0.N) : Fin 32 := ⟨t.val, t.isLt⟩

/-- The features of the point's sentence. -/
theorem op0 (c : Dev nD) (t : Fin cfg0.N) (i : Fin 256) (k : Fin 512) : iblk m c 0 t (ix3 0 i k) = (inputs m c).feat (sen t) i k :=
  (read0 m c t i k).trans (congrFun (V_main_arg0 m c) _)

/-- The padded coordinates of the point's sentence. -/
theorem op1 (c : Dev nD) (t : Fin cfg0.N) (i : Fin 256) (k : Fin 8) : iblk m c 1 t (ix3 0 i k) = (if h : k.val < 3 then (inputs m c).coord (sen t) i ⟨k.val, h⟩ else 0 : EReal) :=
  (read1 m c t i k).trans (V_coord m c (sen t) i k)

/-- The same, transposed. -/
theorem op2 (c : Dev nD) (t : Fin cfg0.N) (k : Fin 8) (i : Fin 256) : iblk m c 2 t (ix3 0 k i) = (if h : k.val < 3 then (inputs m c).coord (sen t) i ⟨k.val, h⟩ else 0 : EReal) :=
  (read2 m c t k i).trans (V_coordT m c (sen t) k i)

/-- The relations. -/
theorem op3 (c : Dev nD) (t : Fin cfg0.N) (i j : Fin 256) : iblk m c 3 t (ix2 i j) = (inputs m c).relation i j :=
  (read3 m c t i j).trans (congrFun (V_main_arg2 m c) _)

/-- The edge weights of the point's sentence. -/
theorem op4 (c : Dev nD) (t : Fin cfg0.N) (k : Fin 16) : iblk m c 4 t (ix3 0 0 k) = (inputs m c).weight (sen t) k :=
  (read4 m c t k).trans (V_weights m c (sen t) k)

/-- The fused features of the point's sentence. -/
theorem op5 (c : Dev nD) (t : Fin cfg0.N) (i : Fin 256) (k : Fin 512) : iblk m c 5 t (ix3 0 i k) = (inputs m c).fuse (sen t) i k :=
  (read5 m c t i k).trans (congrFun (V_main_arg4 m c) _)

/-- The neighbour's matrix. -/
theorem op6 (c : Dev nD) (t : Fin cfg0.N) (x : Fin 8) (k : Fin 64) : iblk m c 6 t (ix2 x k) = (if h : x.val < 3 then (inputs m c).wr1 k ⟨x.val, by omega⟩ + (inputs m c).wr1 k ⟨6 + x.val, by omega⟩ else 0 : EReal) :=
  (read6 m c t x k).trans (V_left m c x k)

/-- The node's own matrix. -/
theorem op7 (c : Dev nD) (t : Fin cfg0.N) (x : Fin 8) (k : Fin 64) : iblk m c 7 t (ix2 x k) = (if h : x.val < 3 then (inputs m c).wr1 k ⟨3 + x.val, by omega⟩ - (inputs m c).wr1 k ⟨6 + x.val, by omega⟩ else 0 : EReal) :=
  (read7 m c t x k).trans (V_right m c x k)

/-- The distance's row. -/
theorem op8 (c : Dev nD) (t : Fin cfg0.N) (k : Fin 64) : iblk m c 8 t (ix2 0 k) = (inputs m c).wr1 k 9 :=
  (read8 m c t k).trans (V_dist m c k)

/-- A vector. -/
theorem op9 (c : Dev nD) (t : Fin cfg0.N) (k : Fin 64) : iblk m c 9 t (ix2 0 k) = (inputs m c).br1 k :=
  (read9 m c t k).trans (V_arg6 m c k)

/-- A vector. -/
theorem op11 (c : Dev nD) (t : Fin cfg0.N) (k : Fin 128) : iblk m c 11 t (ix2 0 k) = (inputs m c).br2 k :=
  (read11 m c t k).trans (V_arg8 m c k)

/-- A vector. -/
theorem op13 (c : Dev nD) (t : Fin cfg0.N) (k : Fin 256) : iblk m c 13 t (ix2 0 k) = (inputs m c).bf1 k :=
  (read13 m c t k).trans (V_arg10 m c k)

/-- A vector. -/
theorem op15 (c : Dev nD) (t : Fin cfg0.N) (k : Fin 128) : iblk m c 15 t (ix2 0 k) = (inputs m c).bf2 k :=
  (read15 m c t k).trans (V_arg12 m c k)

/-- A vector. -/
theorem op17 (c : Dev nD) (t : Fin cfg0.N) (k : Fin 256) : iblk m c 17 t (ix2 0 k) = (inputs m c).bg1 k :=
  (read17 m c t k).trans (V_arg14 m c k)

/-- A vector. -/
theorem op19 (c : Dev nD) (t : Fin cfg0.N) (k : Fin 128) : iblk m c 19 t (ix2 0 k) = (inputs m c).bg2 k :=
  (read19 m c t k).trans (V_arg16 m c k)

/-- A vector. -/
theorem op20 (c : Dev nD) (t : Fin cfg0.N) (k : Fin 128) : iblk m c 20 t (ix2 0 k) = (inputs m c).gamma k :=
  (read20 m c t k).trans (V_arg17 m c k)

/-- A vector. -/
theorem op21 (c : Dev nD) (t : Fin cfg0.N) (k : Fin 128) : iblk m c 21 t (ix2 0 k) = (inputs m c).beta k :=
  (read21 m c t k).trans (V_arg18 m c k)

/-- A matrix. -/
theorem op10 (c : Dev nD) (t : Fin cfg0.N) (x : Fin 64) (k : Fin 128) : iblk m c 10 t (ix2 x k) = (inputs m c).wr2 k x :=
  (read10 m c t x k).trans (V_arg7 m c x k)

/-- A matrix. -/
theorem op12 (c : Dev nD) (t : Fin cfg0.N) (x : Fin 512) (k : Fin 256) : iblk m c 12 t (ix2 x k) = (inputs m c).wf1 k x :=
  (read12 m c t x k).trans (V_arg9 m c x k)

/-- A matrix. -/
theorem op14 (c : Dev nD) (t : Fin cfg0.N) (x : Fin 256) (k : Fin 128) : iblk m c 14 t (ix2 x k) = (inputs m c).wf2 k x :=
  (read14 m c t x k).trans (V_arg11 m c x k)

/-- A matrix. -/
theorem op16 (c : Dev nD) (t : Fin cfg0.N) (x : Fin 512) (k : Fin 256) : iblk m c 16 t (ix2 x k) = (inputs m c).wg1 k x :=
  (read16 m c t x k).trans (V_arg13 m c x k)

/-- A matrix. -/
theorem op18 (c : Dev nD) (t : Fin cfg0.N) (x : Fin 256) (k : Fin 128) : iblk m c 18 t (ix2 x k) = (inputs m c).wg2 k x :=
  (read18 m c t x k).trans (V_arg15 m c x k)

end Cert.KernelIdeal.Value

end
-- ==== Proof.KernelIdeal.ArrayValue.lean ====
/- What the result array holds after the run: the layer's value, sentence by sentence. -/
module

public import proofs.«01_k».proof.Proof.KernelIdeal.Operands
public import proofs.«01_k».proof.Proof.Math.Layer

@[expose] public section

set_option maxRecDepth 16384

noncomputable section

namespace Cert.KernelIdeal.Value

open Idealize.ShloMosaic Idealize.ShloMosaic.TcCoe Idealize.SL.Sem Cert.KernelIdeal Cert.KernelIdeal.Gen Cert.KernelIdeal.Block Fusion

variable (m : (ℓ : Loc nD τ sig) → Buf (Elt Ideal) ℓ)

variable {m} {c : Dev nD}

/-- Networks with the same numbers are the same. -/
theorem net_congr {n h o : ℕ} {x x' : Fin n → EReal} {w w' : Fin n → Fin h → EReal} {b b' : Fin h → EReal} {v v' : Fin h → Fin o → EReal}
    {d d' : Fin o → EReal} (hx : ∀ a, x a = x' a) (hw : ∀ a k, w a k = w' a k) (hb : ∀ k, b k = b' k) (hv : ∀ k l, v k l = v' k l)
    (hd : ∀ l, d l = d' l) (l : Fin o) : output (hidden x w b) v d l = output (hidden x' w' b') v' d' l := by
  rw [funext hx, funext fun a => funext (hw a), funext hb, funext fun a => funext (hv a), funext hd]

/-- The features the block computes are the layer's. -/
theorem features (t : Fin cfg0.N) (i : Fin 256) (l : Fin 128) :
    k0_pay10 (iblk m c 0 t) (iblk m c 12 t) (iblk m c 13 t) (iblk m c 14 t) (iblk m c 15 t) (ix2 i l) = (inputs m c).fe (sen t) i l :=
  (fe_apply _ _ _ _ _ i l).trans (net_congr (fun a => op0 m c t i a) (fun a k => op12 m c t a k) (fun k => op13 m c t k)
    (fun a k => op14 m c t a k) (fun k => op15 m c t k) l)

/-- The fused features the block computes are the layer's. -/
theorem fused (t : Fin cfg0.N) (i : Fin 256) (l : Fin 128) :
    k0_pay12 (iblk m c 5 t) (iblk m c 16 t) (iblk m c 17 t) (iblk m c 18 t) (iblk m c 19 t) (ix2 i l) = (inputs m c).ef (sen t) i l :=
  (ef_apply _ _ _ _ _ i l).trans (net_congr (fun a => op5 m c t i a) (fun a k => op16 m c t a k) (fun k => op17 m c t k)
    (fun a k => op18 m c t a k) (fun k => op19 m c t k) l)

/-- A sum of eight products of which the last five are zero. -/
theorem sum_eight (a b : Fin 8 → EReal) (a' b' : Fin 3 → EReal) (ha : ∀ x : Fin 3, a (x.castLE (by omega)) = a' x)
    (hb : ∀ x : Fin 3, b (x.castLE (by omega)) = b' x) (h0 : ∀ x : Fin 8, 3 ≤ x.val → a x = 0) :
    ∑ x, a x * b x = ∑ x, a' x * b' x := by
  rw [Fin.sum_univ_eight, Fin.sum_univ_three, h0 3 (by decide), h0 4 (by decide), h0 5 (by decide), h0 6 (by decide),
    h0 7 (by decide), ← ha, ← ha, ← ha, ← hb, ← hb, ← hb]
  simp only [zero_mul, add_zero]
  rfl

/-- A neighbour's share of the pair network's hidden layer. -/
theorem left_share (t : Fin cfg0.N) (q : Fin 256) (k : Fin 64) :
    k0_pay11 (iblk m c 1 t) (iblk m c 6 t) (ix2 q k) =
      ∑ x : Fin 3, (inputs m c).coord (sen t) q x * ((inputs m c).wr1 k ⟨x.val, by omega⟩ + (inputs m c).wr1 k ⟨6 + x.val, by omega⟩) := by
  refine (ta_apply _ _ _ _).trans (sum_eight _ _ _ _ (fun x => (op1 m c t q (x.castLE (by omega))).trans (dif_pos x.isLt))
    (fun x => (op6 m c t (x.castLE (by omega)) k).trans (dif_pos x.isLt)) fun x hx => (op1 m c t q x).trans (dif_neg (by omega)))

/-- The node's own share of the pair network's hidden layer. -/
theorem own_share (t : Fin cfg0.N) (p : Fin 256) (k : Fin 64) :
    k0_pay15 (k0_pay9 (iblk m c 1 t)) (iblk m c 7 t) (iblk m c 9 t) (ix2 p k) =
      ∑ x : Fin 3, (inputs m c).coord (sen t) p x * ((inputs m c).wr1 k ⟨3 + x.val, by omega⟩ - (inputs m c).wr1 k ⟨6 + x.val, by omega⟩)
        + (inputs m c).br1 k := by
  refine (base_apply _ _ _ _ _).trans (congrArg₂ (· + ·) (sum_eight _ _ _ _ (fun x => (op1 m c t p (x.castLE (by omega))).trans (dif_pos x.isLt))
    (fun x => (op7 m c t (x.castLE (by omega)) k).trans (dif_pos x.isLt)) fun x hx => (op1 m c t p x).trans (dif_neg (by omega))) (op9 m c t k))

/-- The squared distance of real coordinates is the layer's. -/
theorem sq_eq (s : Fin 32) (u : Fin 32 → Fin 256 → Fin 3 → ℝ) (hu : ∀ s i k, (inputs m c).coord s i k = ((u s i k : ℝ) : EReal))
    (i : Fin 256) : Block.sq (u s) i = (inputs m c).dist s i := by
  funext j
  unfold Block.sq Inputs.dist
  simp only [hu, Fin.sum_univ_three, ← EReal.coe_mul, ← EReal.coe_add, ← EReal.coe_sub]

/-- One block of the result is the layer's value of its sentence. -/
theorem block_apply (h : (inputs m c).Good) (t : Fin cfg0.N) (p : Fin 256) (o : Fin 128) :
    out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (ix3 0 p o) = (inputs m c).value (sen t) p o := by
  obtain ⟨u, hu⟩ := h.coord
  have hc : ∀ (i : Fin 256) (k : Fin 3), iblk m c 1 t (ix3 0 i (k.castLE (by omega))) = ((u (sen t) i k : ℝ) : EReal) := fun i k =>
    (op1 m c t i (k.castLE (by omega))).trans ((dif_pos k.isLt).trans (hu _ i k))
  have hc' : ∀ (k : Fin 3) (i : Fin 256), iblk m c 2 t (ix3 0 (k.castLE (by omega)) i) = ((u (sen t) i k : ℝ) : EReal) := fun k i =>
    (op2 m c t (k.castLE (by omega)) i).trans ((dif_pos k.isLt).trans (hu _ i k))
  have hr : ∀ i j, iblk m c 3 t (ix2 i j) = (inputs m c).relation i j := fun i j => op3 m c t i j
  obtain ⟨P, hP, e⟩ := block_value c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (u (sen t)) hc hc'
    (fun i j => by rw [hr]; exact h.relation i j)
  refine (e p o).trans ?_
  have hPp : P p = (inputs m c).near (sen t) p :=
    Inputs.near_unique h _ p (P p) (by rw [← sq_eq (sen t) u hu]; exact (hP p).1) (hP p).2
  unfold Inputs.value
  rw [hPp]
  refine congrFun (congr (congr (congrArg normalize (funext fun l => ?_)) (funext fun l => op20 m c t l)) (funext fun l => op21 m c t l)) o
  unfold Inputs.residual
  refine congrArg₂ (· + ·) (congrArg₂ (· + ·) (Eq.trans (congrArg₂ (· + ·) (Finset.sum_congr rfl fun q _ => ?_) (Finset.sum_congr rfl fun q _ => ?_))
    Finset.sum_add_distrib.symm) (features t p l)) (fused t p l)
  · refine congrArg₂ (· * ·) (features t q l) ?_
    unfold Inputs.rel
    refine congrFun (congr (congr (congrArg output (funext fun k => ?_)) (funext fun k => funext fun l => op10 m c t k l)) (funext fun l => op11 m c t l)) l
    rw [Inputs.inner_split h]
    refine congrArg₂ (· + ·) (congrArg₂ (· + ·) (left_share t q k) (congrArg₂ (· * ·) (congrArg Ideal.sqrt (congrFun (sq_eq _ u hu p) q)) (op8 m c t k))) (own_share t p k)
  · refine congrArg₂ (· * ·) ((op4 m c t _).trans ?_) (fused t q l)
    unfold Inputs.edge
    refine congrArg _ (Fin.ext ?_)
    show (iblk m c 3 t (ix2 p q)).toNat = _
    rw [hr]
    exact (Nat.mod_eq_of_lt (h.relation p q)).symm

/-- Every point writes its block back. -/
theorem flush_all : ∀ t : Fin cfg0.N, (cfg0.win 22).flush t = true :=
  (by decide +kernel : ∀ t : Fin grid0.N, win0_22.flush t = true)

/-- The result array after the run is the layer's value. -/
theorem array_apply (h : (inputs m c).Good) (s : Fin 32) (p : Fin 256) (o : Fin 128) :
    (dats m 0 c).arrAt 22 cfg0.N (ix3 s p o) = (inputs m c).value s p o := by
  have hs : s.val < cfg0.N := s.isLt
  have e := congrFun (blocks22 m c ⟨s.val, hs⟩ (flush_all _)) (ix3 0 p o)
  rw [flushed22_A] at e
  have e' := (Eq.trans e (block_apply h ⟨s.val, hs⟩ p o))
  refine Eq.trans ?_ e'
  blk_ext [index_at ⟨s.val, hs⟩]

end Cert.KernelIdeal.Value

end
-- ==== Proof.ReferenceIdeal.Nodes.lean ====
/- The reference's networks of the nodes: its arrays of features and of fused features at an index. -/
module

public import proofs.«01_k».proof.Proof.Gen.ReferenceIdeal.Run
public import proofs.«01_k».proof.Proof.Math.Layer
public import Idealize.ShloMosaic.Lib.Pointwise

@[expose] public section

set_option maxRecDepth 16384

noncomputable section

namespace Cert.ReferenceIdeal.Value

open Idealize.ShloMosaic Idealize.ShloMosaic.TcCoe Cert.ReferenceIdeal Cert.ReferenceIdeal.Gen Fusion

variable (V0 : Valuation τ sig (Elt Ideal))

/-- The inputs as a launch finds them. -/
def inputs : Inputs where
  feat := fun x y z => V0 (Proc.devRef .tc main_arg0) (ix3 x y z)
  coord := fun x y z => V0 (Proc.devRef .tc main_arg1) (ix3 x y z)
  relation := fun x y => V0 (Proc.devRef .tc main_arg2) (ix2 x y)
  weight := fun x y => V0 (Proc.devRef .tc main_arg3) (ix2 x y)
  fuse := fun x y z => V0 (Proc.devRef .tc main_arg4) (ix3 x y z)
  wr1 := fun x y => V0 (Proc.devRef .tc main_arg5) (ix2 x y)
  br1 := fun x => V0 (Proc.devRef .tc main_arg6) (ix1 x)
  wr2 := fun x y => V0 (Proc.devRef .tc main_arg7) (ix2 x y)
  br2 := fun x => V0 (Proc.devRef .tc main_arg8) (ix1 x)
  wf1 := fun x y => V0 (Proc.devRef .tc main_arg9) (ix2 x y)
  bf1 := fun x => V0 (Proc.devRef .tc main_arg10) (ix1 x)
  wf2 := fun x y => V0 (Proc.devRef .tc main_arg11) (ix2 x y)
  bf2 := fun x => V0 (Proc.devRef .tc main_arg12) (ix1 x)
  wg1 := fun x y => V0 (Proc.devRef .tc main_arg13) (ix2 x y)
  bg1 := fun x => V0 (Proc.devRef .tc main_arg14) (ix1 x)
  wg2 := fun x y => V0 (Proc.devRef .tc main_arg15) (ix2 x y)
  bg2 := fun x => V0 (Proc.devRef .tc main_arg16) (ix1 x)
  gamma := fun x => V0 (Proc.devRef .tc main_arg17) (ix1 x)
  beta := fun x => V0 (Proc.devRef .tc main_arg18) (ix1 x)

/-- The hidden layer of the features. -/
theorem v4_apply (s : Fin 32) (i : Fin 256) (k : Fin 256) :
    res_main_v4 V0 (ix3 s i k) = hidden ((inputs V0).feat s i) (fun a k => (inputs V0).wf1 k a) (inputs V0).bf1 k := by
  unfold res_main_v4
  pointwise [dot_S32x256x512_S512x256_S32x256x256_2_0_01_1_n_n]
  rfl

/-- The features. -/
theorem v14_apply (s : Fin 32) (i : Fin 256) (l : Fin 128) :
    res_main_v14 V0 (ix3 s i l) = (inputs V0).fe s i l := by
  unfold res_main_v14
  pointwise [dot_S32x256x256_S256x128_S32x256x128_2_0_01_1_n_n]
  simp only [v4_apply]
  rfl

/-- The hidden layer of the fused features. -/
theorem v19_apply (s : Fin 32) (i : Fin 256) (k : Fin 256) :
    res_main_v19 V0 (ix3 s i k) = hidden ((inputs V0).fuse s i) (fun a k => (inputs V0).wg1 k a) (inputs V0).bg1 k := by
  unfold res_main_v19
  pointwise [dot_S32x256x512_S512x256_S32x256x256_2_0_01_1_n_n]
  rfl

/-- The fused features. -/
theorem v29_apply (s : Fin 32) (i : Fin 256) (l : Fin 128) :
    res_main_v29 V0 (ix3 s i l) = (inputs V0).ef s i l := by
  unfold res_main_v29
  pointwise [dot_S32x256x256_S256x128_S32x256x128_2_0_01_1_n_n]
  simp only [v19_apply]
  rfl

end Cert.ReferenceIdeal.Value

end
-- ==== Proof.ReferenceIdeal.Order.lean ====
/- The reference's distances, and its list of the nearest nodes: the r-th entry is the r-th node in order of distance. -/
module

public import proofs.«01_k».proof.Proof.ReferenceIdeal.Nodes

@[expose] public section

set_option maxRecDepth 16384

noncomputable section

namespace Cert.ReferenceIdeal.Value

open Idealize.ShloMosaic Idealize.ShloMosaic.TcCoe Cert.ReferenceIdeal Cert.ReferenceIdeal.Gen Fusion

variable (V0 : Valuation τ sig (Elt Ideal))

/-- The array the reference takes the greatest of is the distances, negated. -/
theorem v37_apply (s : Fin 32) (i j : Fin 256) : res_main_v37 V0 (ix3 s i j) = -(inputs V0).dist s i j := by
  unfold res_main_v37 res_main_v34
  pointwise
  rfl

/-- The `r`-th nearest node of node `i`. -/
def pick (s : Fin 32) (i : Fin 256) (r : Fin 17) : Fin 256 :=
  sortedFrom (fun a b => decide ((inputs V0).dist s i a < (inputs V0).dist s i b)) (r.castLE (by omega))

/-- The line along the last axis. -/
theorem along_last (s : Fin 32) (i j k : Fin 256) :
    Shape.Idx.along (s := S32x256x256) (ix3 s i j) (2 : Fin 3) k = ix3 s i k := by
  funext a
  match a with
  | ⟨0, _⟩ => rfl
  | ⟨1, _⟩ => rfl
  | ⟨2, _⟩ => rfl

/-- The positions of the greatest entries, at an index: the positions a stable sort along the last axis puts first. -/
theorem topK_apply (gt : EReal → EReal → BitVec 1) (x : S32x256x256.Idx → EReal) (h : S32x256x256.Slices (fun _ => 0) S32x256x17)
    (s : Fin 32) (i : Fin 256) (r : Fin 17) :
    (Host.topK S32x256x17 2 gt x h).2 (ix3 s i r) =
      BitVec.ofNat 32 (sortedFrom (fun k k' => gt (x (ix3 s i k)) (x (ix3 s i k')) == 1#1) (r.castLE (by omega))).val := by
  have hj : (fun a => ⟨0 + ((ix3 s i r : S32x256x17.Idx) (a.cast h.1.symm)).val, Nat.lt_of_lt_of_le (Nat.add_lt_add_left (((ix3 s i r : S32x256x17.Idx) (a.cast h.1.symm))).isLt _) (h.2 a)⟩ : S32x256x256.Idx)
      = ix3 s i (r.castLE (by omega)) := by
    funext a
    match a with
    | ⟨0, _⟩ => exact Fin.ext (Nat.zero_add _)
    | ⟨1, _⟩ => exact Fin.ext (Nat.zero_add _)
    | ⟨2, _⟩ => exact Fin.ext (Nat.zero_add _)
  unfold Host.topK extractStridedSlice
  dsimp only
  rw [hj]
  unfold Host.sort2
  rw [dif_pos (show 2 < S32x256x256.rank by decide)]
  dsimp only
  rw [dif_pos (show 2 < S32x256x256.rank by decide)]
  unfold iotaInDim
  have e : ∀ k : Fin 256, Shape.Idx.along (s := S32x256x256) (ix3 s i (r.castLE (by omega))) (2 : Fin 3) k = ix3 s i k := along_last s i _
  refine congrArg (BitVec.ofNat 32) ?_
  refine (congrArg (fun j : S32x256x256.Idx => (j 2).val) (e _)).trans ?_
  refine congrArg (fun f : Fin 256 → Fin 256 → Bool => (sortedFrom f (r.castLE (by omega))).val) ?_
  funext k k'
  exact congrArg₂ (fun a b => gt (x a) (x b) == 1#1) (e k) (e k')

/-- The list's entry is the number of the `r`-th nearest node. -/
theorem indices_apply (s : Fin 32) (i : Fin 256) (r : Fin 17) :
    res_main_indices V0 (ix3 s i r) = BitVec.ofNat 32 (pick V0 s i r).val := by
  unfold res_main_indices
  refine (topK_apply _ _ _ s i r).trans ?_
  refine congrArg (fun f : Fin 256 → Fin 256 → Bool => BitVec.ofNat 32 (sortedFrom f (r.castLE (by omega))).val) ?_
  funext a b
  rw [v37_apply, v37_apply]
  show (Ideal.cmp .ogt _ _ == 1#1) = decide ((inputs V0).dist s i a < (inputs V0).dist s i b)
  unfold Ideal.cmp
  simp only [EReal.neg_lt_neg_iff]
  cases decide ((inputs V0).dist s i a < (inputs V0).dist s i b) <;> rfl

/-- A sum over the list is a sum over the neighbours. -/
theorem sum_pick (s : Fin 32) (i : Fin 256) (g : Fin 256 → EReal) : ∑ r, g (pick V0 s i r) = ∑ j ∈ (inputs V0).near s i, g j :=
  Nearest.sum_firsts _ 17 (by norm_num) g

end Cert.ReferenceIdeal.Value

end
-- ==== Proof.ReferenceIdeal.Gathers.lean ====
/- The gathers of the reference at an index: rows picked by a sentence and a node, the edge weights picked by a relation,
   the weights of a node's edges picked by a list of nodes. A start index is read signed and clamped into the axis. -/
module

public import proofs.«01_k».proof.Proof.ReferenceIdeal.Order

@[expose] public section

set_option maxRecDepth 16384

noncomputable section

namespace Cert.ReferenceIdeal.Value

open Idealize.ShloMosaic Idealize.ShloMosaic.TcCoe Cert.ReferenceIdeal Cert.ReferenceIdeal.Gen Fusion

/-- A start index, read signed and clamped. -/
def clamp (n : ℕ) (b : BitVec 32) : ℕ := min b.toInt.toNat n

theorem clamp_lt {n k : ℕ} (b : BitVec 32) (h : n < k) : clamp n b < k := Nat.lt_of_le_of_lt (Nat.min_le_right _ _) h

/-- A small number, as a word, is read back as itself. -/
theorem clamp_ofNat {n k : ℕ} (h : k ≤ n) (hn : n < 2 ^ 31) : clamp n (BitVec.ofNat 32 k) = k := by
  have e : (BitVec.ofNat 32 k).toInt = (k : ℤ) := by
    have hk : (BitVec.ofNat 32 k).toNat = k := by
      rw [BitVec.toNat_ofNat]
      exact Nat.mod_eq_of_lt (by omega)
    rw [BitVec.toInt_eq_toNat_of_lt (by omega), hk]
  unfold clamp
  rw [e, Int.toNat_natCast]
  exact Nat.min_eq_left h

/-- Rows of 3 numbers picked by a sentence and a node. -/
theorem gather_coord (x : S32x256x3.Idx → EReal) (idx : IVec S32x256x17x2 32) (s : Fin 32) (i : Fin 256) (r : Fin 17) (k : Fin 3) :
    Host.gather gather_S32x256x3_S32x256x17x2_S32x256x17x3_3_01_n_n_01_3_113 x idx (ix4 s i r k) =
      x (ix3 ⟨clamp 31 (idx (ix4 s i r 0)), clamp_lt _ (by norm_num)⟩ ⟨clamp 255 (idx (ix4 s i r 1)), clamp_lt _ (by norm_num)⟩ k) := by
  unfold Host.gather
  congr 1
  funext a
  refine Fin.ext ?_
  match a with
  | ⟨0, _⟩ =>
    · show (gather_S32x256x3_S32x256x17x2_S32x256x17x3_3_01_n_n_01_3_113).start _ idx ⟨0, by decide⟩ + (gather_S32x256x3_S32x256x17x2_S32x256x17x3_3_01_n_n_01_3_113).batchCoord _ ⟨0, by decide⟩ + (gather_S32x256x3_S32x256x17x2_S32x256x17x3_3_01_n_n_01_3_113).offCoord _ ⟨0, by decide⟩ = _
      rw [GatherDims.batchCoord_eq_zero _ _ _ (by decide), GatherDims.offCoord_eq_zero _ _ _ (by decide)]
      simp only [Nat.add_zero]
      unfold GatherDims.start
      rw [dif_pos (by decide)]
      have e : (gather_S32x256x3_S32x256x17x2_S32x256x17x3_3_01_n_n_01_3_113).siIdx (ix4 s i r k) ⟨0, by decide⟩ = ix4 s i r 0 := by
        funext b; refine Fin.ext ?_
        match b with
        | ⟨0, _⟩ => rfl
        | ⟨1, _⟩ => rfl
        | ⟨2, _⟩ => rfl
        | ⟨3, _⟩ => rfl
      exact congrArg (fun b => clamp 31 (idx b)) e
  | ⟨1, _⟩ =>
    · show (gather_S32x256x3_S32x256x17x2_S32x256x17x3_3_01_n_n_01_3_113).start _ idx ⟨1, by decide⟩ + (gather_S32x256x3_S32x256x17x2_S32x256x17x3_3_01_n_n_01_3_113).batchCoord _ ⟨1, by decide⟩ + (gather_S32x256x3_S32x256x17x2_S32x256x17x3_3_01_n_n_01_3_113).offCoord _ ⟨1, by decide⟩ = _
      rw [GatherDims.batchCoord_eq_zero _ _ _ (by decide), GatherDims.offCoord_eq_zero _ _ _ (by decide)]
      simp only [Nat.add_zero]
      unfold GatherDims.start
      rw [dif_pos (by decide)]
      have e : (gather_S32x256x3_S32x256x17x2_S32x256x17x3_3_01_n_n_01_3_113).siIdx (ix4 s i r k) ⟨1, by decide⟩ = ix4 s i r 1 := by
        funext b; refine Fin.ext ?_
        match b with
        | ⟨0, _⟩ => rfl
        | ⟨1, _⟩ => rfl
        | ⟨2, _⟩ => rfl
        | ⟨3, _⟩ => rfl
      exact congrArg (fun b => clamp 255 (idx b)) e
  | ⟨2, _⟩ =>
    · show (gather_S32x256x3_S32x256x17x2_S32x256x17x3_3_01_n_n_01_3_113).start _ idx ⟨2, by decide⟩ + (gather_S32x256x3_S32x256x17x2_S32x256x17x3_3_01_n_n_01_3_113).batchCoord _ ⟨2, by decide⟩ + (gather_S32x256x3_S32x256x17x2_S32x256x17x3_3_01_n_n_01_3_113).offCoord _ ⟨2, by decide⟩ = _
      rw [GatherDims.batchCoord_eq_zero _ _ _ (by decide)]
      unfold GatherDims.start GatherDims.offCoord
      rw [dif_neg (by decide), dif_pos (by decide)]
      exact Nat.zero_add _

/-- Rows of 128 numbers picked by a sentence and a node. -/
theorem gather_row (x : S32x256x128.Idx → EReal) (idx : IVec S32x256x17x2 32) (s : Fin 32) (i : Fin 256) (r : Fin 17) (k : Fin 128) :
    Host.gather gather_S32x256x128_S32x256x17x2_S32x256x17x128_3_01_n_n_01_3_11128 x idx (ix4 s i r k) =
      x (ix3 ⟨clamp 31 (idx (ix4 s i r 0)), clamp_lt _ (by norm_num)⟩ ⟨clamp 255 (idx (ix4 s i r 1)), clamp_lt _ (by norm_num)⟩ k) := by
  unfold Host.gather
  congr 1
  funext a
  refine Fin.ext ?_
  match a with
  | ⟨0, _⟩ =>
    · show (gather_S32x256x128_S32x256x17x2_S32x256x17x128_3_01_n_n_01_3_11128).start _ idx ⟨0, by decide⟩ + (gather_S32x256x128_S32x256x17x2_S32x256x17x128_3_01_n_n_01_3_11128).batchCoord _ ⟨0, by decide⟩ + (gather_S32x256x128_S32x256x17x2_S32x256x17x128_3_01_n_n_01_3_11128).offCoord _ ⟨0, by decide⟩ = _
      rw [GatherDims.batchCoord_eq_zero _ _ _ (by decide), GatherDims.offCoord_eq_zero _ _ _ (by decide)]
      simp only [Nat.add_zero]
      unfold GatherDims.start
      rw [dif_pos (by decide)]
      have e : (gather_S32x256x128_S32x256x17x2_S32x256x17x128_3_01_n_n_01_3_11128).siIdx (ix4 s i r k) ⟨0, by decide⟩ = ix4 s i r 0 := by
        funext b; refine Fin.ext ?_
        match b with
        | ⟨0, _⟩ => rfl
        | ⟨1, _⟩ => rfl
        | ⟨2, _⟩ => rfl
        | ⟨3, _⟩ => rfl
      exact congrArg (fun b => clamp 31 (idx b)) e
  | ⟨1, _⟩ =>
    · show (gather_S32x256x128_S32x256x17x2_S32x256x17x128_3_01_n_n_01_3_11128).start _ idx ⟨1, by decide⟩ + (gather_S32x256x128_S32x256x17x2_S32x256x17x128_3_01_n_n_01_3_11128).batchCoord _ ⟨1, by decide⟩ + (gather_S32x256x128_S32x256x17x2_S32x256x17x128_3_01_n_n_01_3_11128).offCoord _ ⟨1, by decide⟩ = _
      rw [GatherDims.batchCoord_eq_zero _ _ _ (by decide), GatherDims.offCoord_eq_zero _ _ _ (by decide)]
      simp only [Nat.add_zero]
      unfold GatherDims.start
      rw [dif_pos (by decide)]
      have e : (gather_S32x256x128_S32x256x17x2_S32x256x17x128_3_01_n_n_01_3_11128).siIdx (ix4 s i r k) ⟨1, by decide⟩ = ix4 s i r 1 := by
        funext b; refine Fin.ext ?_
        match b with
        | ⟨0, _⟩ => rfl
        | ⟨1, _⟩ => rfl
        | ⟨2, _⟩ => rfl
        | ⟨3, _⟩ => rfl
      exact congrArg (fun b => clamp 255 (idx b)) e
  | ⟨2, _⟩ =>
    · show (gather_S32x256x128_S32x256x17x2_S32x256x17x128_3_01_n_n_01_3_11128).start _ idx ⟨2, by decide⟩ + (gather_S32x256x128_S32x256x17x2_S32x256x17x128_3_01_n_n_01_3_11128).batchCoord _ ⟨2, by decide⟩ + (gather_S32x256x128_S32x256x17x2_S32x256x17x128_3_01_n_n_01_3_11128).offCoord _ ⟨2, by decide⟩ = _
      rw [GatherDims.batchCoord_eq_zero _ _ _ (by decide)]
      unfold GatherDims.start GatherDims.offCoord
      rw [dif_neg (by decide), dif_pos (by decide)]
      exact Nat.zero_add _

/-- The edge weights picked by a relation. -/
theorem gather_weight (x : S32x16.Idx → EReal) (idx : IVec S256x256x1 32) (s : Fin 32) (i j : Fin 256) :
    Host.gather gather_S32x16_S256x256x1_S32x256x256_0_1_n_n_1_2_321 x idx (ix3 s i j) = x (ix2 s ⟨clamp 15 (idx (ix3 i j 0)), clamp_lt _ (by norm_num)⟩) := by
  unfold Host.gather
  congr 1
  funext a
  refine Fin.ext ?_
  match a with
  | ⟨0, _⟩ =>
    · show (gather_S32x16_S256x256x1_S32x256x256_0_1_n_n_1_2_321).start _ idx ⟨0, by decide⟩ + (gather_S32x16_S256x256x1_S32x256x256_0_1_n_n_1_2_321).batchCoord _ ⟨0, by decide⟩ + (gather_S32x16_S256x256x1_S32x256x256_0_1_n_n_1_2_321).offCoord _ ⟨0, by decide⟩ = _
      rw [GatherDims.batchCoord_eq_zero _ _ _ (by decide)]
      unfold GatherDims.start GatherDims.offCoord
      rw [dif_neg (by decide), dif_pos (by decide)]
      exact Nat.zero_add _
  | ⟨1, _⟩ =>
    · show (gather_S32x16_S256x256x1_S32x256x256_0_1_n_n_1_2_321).start _ idx ⟨1, by decide⟩ + (gather_S32x16_S256x256x1_S32x256x256_0_1_n_n_1_2_321).batchCoord _ ⟨1, by decide⟩ + (gather_S32x16_S256x256x1_S32x256x256_0_1_n_n_1_2_321).offCoord _ ⟨1, by decide⟩ = _
      rw [GatherDims.batchCoord_eq_zero _ _ _ (by decide), GatherDims.offCoord_eq_zero _ _ _ (by decide)]
      simp only [Nat.add_zero]
      unfold GatherDims.start
      rw [dif_pos (by decide)]
      have e : (gather_S32x16_S256x256x1_S32x256x256_0_1_n_n_1_2_321).siIdx (ix3 s i j) ⟨0, by decide⟩ = ix3 i j 0 := by
        funext b; refine Fin.ext ?_
        match b with
        | ⟨0, _⟩ => rfl
        | ⟨1, _⟩ => rfl
        | ⟨2, _⟩ => rfl
      exact congrArg (fun b => clamp 15 (idx b)) e

/-- The weights of a node's edges picked by a list of nodes. -/
theorem gather_edge (x : S32x256x256.Idx → EReal) (idx : IVec S32x256x17x1 32) (s : Fin 32) (i : Fin 256) (r : Fin 17) :
    Host.gather gather_S32x256x256_S32x256x17x1_S32x256x17_n_2_01_01_2_3_111 x idx (ix3 s i r) = x (ix3 s i ⟨clamp 255 (idx (ix4 s i r 0)), clamp_lt _ (by norm_num)⟩) := by
  unfold Host.gather
  congr 1
  funext a
  refine Fin.ext ?_
  match a with
  | ⟨0, _⟩ =>
    · show (gather_S32x256x256_S32x256x17x1_S32x256x17_n_2_01_01_2_3_111).start _ idx ⟨0, by decide⟩ + (gather_S32x256x256_S32x256x17x1_S32x256x17_n_2_01_01_2_3_111).batchCoord _ ⟨0, by decide⟩ + (gather_S32x256x256_S32x256x17x1_S32x256x17_n_2_01_01_2_3_111).offCoord _ ⟨0, by decide⟩ = _
      rw [GatherDims.start_batching _ _ _ _ (by decide), GatherDims.offCoord_eq_zero _ _ _ (by decide)]
      simp only [Nat.zero_add, Nat.add_zero]
      unfold GatherDims.batchCoord
      rw [dif_pos (by decide)]
      rfl
  | ⟨1, _⟩ =>
    · show (gather_S32x256x256_S32x256x17x1_S32x256x17_n_2_01_01_2_3_111).start _ idx ⟨1, by decide⟩ + (gather_S32x256x256_S32x256x17x1_S32x256x17_n_2_01_01_2_3_111).batchCoord _ ⟨1, by decide⟩ + (gather_S32x256x256_S32x256x17x1_S32x256x17_n_2_01_01_2_3_111).offCoord _ ⟨1, by decide⟩ = _
      rw [GatherDims.start_batching _ _ _ _ (by decide), GatherDims.offCoord_eq_zero _ _ _ (by decide)]
      simp only [Nat.zero_add, Nat.add_zero]
      unfold GatherDims.batchCoord
      rw [dif_pos (by decide)]
      rfl
  | ⟨2, _⟩ =>
    · show (gather_S32x256x256_S32x256x17x1_S32x256x17_n_2_01_01_2_3_111).start _ idx ⟨2, by decide⟩ + (gather_S32x256x256_S32x256x17x1_S32x256x17_n_2_01_01_2_3_111).batchCoord _ ⟨2, by decide⟩ + (gather_S32x256x256_S32x256x17x1_S32x256x17_n_2_01_01_2_3_111).offCoord _ ⟨2, by decide⟩ = _
      rw [GatherDims.batchCoord_eq_zero _ _ _ (by decide), GatherDims.offCoord_eq_zero _ _ _ (by decide)]
      simp only [Nat.add_zero]
      unfold GatherDims.start
      rw [dif_pos (by decide)]
      have e : (gather_S32x256x256_S32x256x17x1_S32x256x17_n_2_01_01_2_3_111).siIdx (ix3 s i r) ⟨0, by decide⟩ = ix4 s i r 0 := by
        funext b; refine Fin.ext ?_
        match b with
        | ⟨0, _⟩ => rfl
        | ⟨1, _⟩ => rfl
        | ⟨2, _⟩ => rfl
        | ⟨3, _⟩ => rfl
      exact congrArg (fun b => clamp 255 (idx b)) e

end Cert.ReferenceIdeal.Value

end
-- ==== Proof.ReferenceIdeal.Neighbours.lean ====
/- What the reference reads at a node's neighbours: the list's entries as start indices, the coordinates and features of a
   neighbour, the weight of the edge to it. -/
module

public import proofs.«01_k».proof.Proof.ReferenceIdeal.Gathers

@[expose] public section

set_option maxRecDepth 16384

noncomputable section

namespace Cert.ReferenceIdeal.Value

open Idealize.ShloMosaic Idealize.ShloMosaic.TcCoe Cert.ReferenceIdeal Cert.ReferenceIdeal.Gen Fusion

variable (V0 : Valuation τ sig (Elt Ideal))

/-- A word that is not negative is not wrapped. -/
theorem wrap_ofNat {n : ℕ} (h : n < 256) (y : BitVec 32) :
    Scalar.select (IntOp.cmpi .slt (BitVec.ofNat 32 n) 0#32) y (BitVec.ofNat 32 n) = BitVec.ofNat 32 n := by
  have e : IntOp.cmpi .slt (BitVec.ofNat 32 n) 0#32 = 0#1 := by
    have hn : ¬ (BitVec.ofNat 32 n).toInt < (0#32 : BitVec 32).toInt := by
      have hk : (BitVec.ofNat 32 n).toNat = n := by
        rw [BitVec.toNat_ofNat]
        exact Nat.mod_eq_of_lt (by omega)
      rw [BitVec.toInt_eq_toNat_of_lt (by omega), hk]
      simp
    show BitVec.ofBool (BitVec.slt _ _) = 0#1
    unfold BitVec.slt
    rw [decide_eq_false hn]
    rfl
  rw [e]
  rfl

/-- The start indices of the rows: the sentence, and the list's entry. -/
def starts : IVec S32x256x17x2 32 :=
  concatenate S32x256x17x2 3 [⟨S32x256x17x1, (broadcastInDim S32x256x17x1 ![0, 1, 2] bcast_S32x256x17_S32x256x17x1_0_1_2 (select (cmpi .slt (res_main_v40 V0) (broadcastInDim S32x256x17 ![] bcast_S_S32x256x17 (constantI S_ 32 0#32))) (addi (res_main_v40 V0) (broadcastInDim S32x256x17 ![] bcast_S_S32x256x17 (constantI S_ 32 32#32))) (res_main_v40 V0)))⟩, ⟨S32x256x17x1, (broadcastInDim S32x256x17x1 ![0, 1, 2] bcast_S32x256x17_S32x256x17x1_0_1_2 (select (cmpi .slt (res_main_indices V0) (broadcastInDim S32x256x17 ![] bcast_S_S32x256x17 (constantI S_ 32 0#32))) (addi (res_main_indices V0) (broadcastInDim S32x256x17 ![] bcast_S_S32x256x17 (constantI S_ 32 256#32))) (res_main_indices V0)))⟩] concatenates_S32x256x17x1_S32x256x17x1_S32x256x17x2_d3

/-- The first start index is the sentence. -/
theorem starts_sentence (s : Fin 32) (i : Fin 256) (r : Fin 17) : starts V0 (ix4 s i r 0) = BitVec.ofNat 32 s.val := by
  unfold starts res_main_v40
  pointwise
  exact wrap_ofNat (by omega) _

/-- The second start index is the node the list names. -/
theorem starts_node (s : Fin 32) (i : Fin 256) (r : Fin 17) : starts V0 (ix4 s i r 1) = BitVec.ofNat 32 (pick V0 s i r).val := by
  unfold starts
  pointwise
  rw [indices_apply]
  exact wrap_ofNat (pick V0 s i r).isLt _

/-- The start index of an edge is the node the list names. -/
theorem edge_start (s : Fin 32) (i : Fin 256) (r : Fin 17) : res_main_call2_v5 V0 (ix4 s i r 0) = BitVec.ofNat 32 (pick V0 s i r).val := by
  unfold res_main_call2_v5
  pointwise
  rw [indices_apply]
  exact wrap_ofNat (pick V0 s i r).isLt _

/-- The row picked is the neighbour's. -/
theorem row_apply (x : S32x256x128.Idx → EReal) (s : Fin 32) (i : Fin 256) (r : Fin 17) (l : Fin 128) :
    Host.gather gather_S32x256x128_S32x256x17x2_S32x256x17x128_3_01_n_n_01_3_11128 x (starts V0) (ix4 s i r l) = x (ix3 s (pick V0 s i r) l) := by
  rw [gather_row]
  have h0 : clamp 31 (starts V0 (ix4 s i r 0)) = s.val := by rw [starts_sentence]; exact clamp_ofNat (by omega) (by norm_num)
  have h1 : clamp 255 (starts V0 (ix4 s i r 1)) = (pick V0 s i r).val := by rw [starts_node]; exact clamp_ofNat (by omega) (by norm_num)
  exact congrArg x (congrArg₂ (fun a b => ix3 a b l) (Fin.ext h0) (Fin.ext h1))

/-- The neighbour's coordinates. -/
theorem v63_apply (s : Fin 32) (i : Fin 256) (r : Fin 17) (k : Fin 3) :
    res_main_v63 V0 (ix4 s i r k) = (inputs V0).coord s (pick V0 s i r) k := by
  refine (gather_coord _ (starts V0) s i r k).trans ?_
  have h0 : clamp 31 (starts V0 (ix4 s i r 0)) = s.val := by rw [starts_sentence]; exact clamp_ofNat (by omega) (by norm_num)
  have h1 : clamp 255 (starts V0 (ix4 s i r 1)) = (pick V0 s i r).val := by rw [starts_node]; exact clamp_ofNat (by omega) (by norm_num)
  exact congrArg (V0 (Proc.devRef .tc main_arg1)) (congrArg₂ (fun a b => ix3 a b k) (Fin.ext h0) (Fin.ext h1))

/-- The node's own coordinates. -/
theorem v65_apply (s : Fin 32) (i : Fin 256) (r : Fin 17) (k : Fin 3) :
    res_main_v65 V0 (ix4 s i r k) = (inputs V0).coord s i k := by
  unfold res_main_v65
  pointwise
  rfl

/-- Their difference. -/
theorem v66_apply (s : Fin 32) (i : Fin 256) (r : Fin 17) (k : Fin 3) :
    res_main_v66 V0 (ix4 s i r k) = (inputs V0).coord s (pick V0 s i r) k - (inputs V0).coord s i k := by
  unfold res_main_v66
  pointwise
  rw [v63_apply, v65_apply]

/-- The hidden layer of the pair network at a neighbour. -/
theorem v76_apply (s : Fin 32) (i : Fin 256) (r : Fin 17) (k : Fin 64) :
    res_main_v76 V0 (ix4 s i r k) = (inputs V0).inner s i (pick V0 s i r) k := by
  unfold res_main_v76
  pointwise [dot_S32x256x17x10_S10x64_S32x256x17x64_3_0_012_1_n_n]
  simp only [v63_apply, v65_apply, v66_apply]
  unfold Inputs.inner Fusion.hidden
  refine congrArg₂ (· + ·) (Finset.sum_congr rfl fun x _ => congrArg₂ (· * ·) ?_ rfl) rfl
  unfold Inputs.pair Inputs.dist
  fin_cases x <;> rfl

/-- The start indices of the edge weights: the relations. -/
def kinds : IVec S256x256x1 32 :=
  broadcastInDim S256x256x1 ![0, 1] bcast_S256x256_S256x256x1_0_1 (select (cmpi .slt (V0 (Proc.devRef .tc main_arg2)) (broadcastInDim S256x256 ![] bcast_S_S256x256 (constantI S_ 32 0#32))) (addi (V0 (Proc.devRef .tc main_arg2)) (broadcastInDim S256x256 ![] bcast_S_S256x256 (constantI S_ 32 16#32))) (V0 (Proc.devRef .tc main_arg2)))

/-- A relation is read as itself. -/
theorem kinds_apply (h : (inputs V0).Good) (i j : Fin 256) : clamp 15 (kinds V0 (ix3 i j 0)) = ((inputs V0).relation i j).toNat := by
  have hlt := h.relation i j
  have e : ((inputs V0).relation i j) = BitVec.ofNat 32 ((inputs V0).relation i j).toNat := by
    rw [BitVec.ofNat_toNat, BitVec.setWidth_eq]
  have e2 : kinds V0 (ix3 i j 0) = Scalar.select (IntOp.cmpi .slt ((inputs V0).relation i j) 0#32) (IntOp.addi ((inputs V0).relation i j) 16#32) ((inputs V0).relation i j) := by
    unfold kinds
    pointwise
    rfl
  rw [e2, e]
  generalize ((inputs V0).relation i j).toNat = n at hlt
  rw [wrap_ofNat (by omega)]
  rw [clamp_ofNat (by omega) (by norm_num), BitVec.toNat_ofNat]
  exact (Nat.mod_eq_of_lt (by omega)).symm

/-- The entry picked by the relation of a node and its neighbour. -/
theorem pick_weight (h : (inputs V0).Good) (x : S32x16.Idx → EReal) (s : Fin 32) (i : Fin 256) (r : Fin 17) :
    Host.gather gather_S32x256x256_S32x256x17x1_S32x256x17_n_2_01_01_2_3_111 (Host.gather gather_S32x16_S256x256x1_S32x256x256_0_1_n_n_1_2_321 x (kinds V0)) (res_main_call2_v5 V0) (ix3 s i r)
      = x (ix2 s ⟨((inputs V0).relation i (pick V0 s i r)).toNat % 16, Nat.mod_lt _ (by norm_num)⟩) := by
  rw [gather_edge, gather_weight]
  have h1 : clamp 255 (res_main_call2_v5 V0 (ix4 s i r 0)) = (pick V0 s i r).val := by rw [edge_start]; exact clamp_ofNat (by omega) (by norm_num)
  have h2 : (⟨clamp 255 (res_main_call2_v5 V0 (ix4 s i r 0)), clamp_lt _ (by norm_num)⟩ : Fin 256) = pick V0 s i r := Fin.ext h1
  rw [h2]
  exact congrArg x (congrArg (ix2 s) (Fin.ext ((kinds_apply V0 h i (pick V0 s i r)).trans (Nat.mod_eq_of_lt (h.relation _ _)).symm)))

/-- The weight of the edge to a neighbour. -/
theorem weight_apply (h : (inputs V0).Good) (s : Fin 32) (i : Fin 256) (r : Fin 17) :
    Host.gather gather_S32x256x256_S32x256x17x1_S32x256x17_n_2_01_01_2_3_111 (Host.gather gather_S32x16_S256x256x1_S32x256x256_0_1_n_n_1_2_321 (V0 (Proc.devRef .tc main_arg3)) (kinds V0)) (res_main_call2_v5 V0) (ix3 s i r)
      = (inputs V0).edge s i (pick V0 s i r) :=
  pick_weight V0 h (V0 (Proc.devRef .tc main_arg3)) s i r

/-- No start index of an edge is out of range, so the mask over them keeps every weight. -/
theorem mask_apply (S : Finset S32x256x17x1.Idx) :
    Finset.fold IntOp.andi (1#1) (fun x => IntOp.andi (IntOp.cmpi .sge (res_main_call2_v5 V0 x) 0#32) (IntOp.cmpi .sle (res_main_call2_v5 V0 x) 255#32)) S = 1#1 := by
  have e : ∀ x : S32x256x17x1.Idx, IntOp.andi (IntOp.cmpi .sge (res_main_call2_v5 V0 x) 0#32) (IntOp.cmpi .sle (res_main_call2_v5 V0 x) 255#32) = 1#1 := fun x => by
    have hx : x = ix4 (x 0) (x 1) (x 2) (0 : Fin 1) := by
      funext a
      match a with
      | ⟨0, _⟩ => rfl
      | ⟨1, _⟩ => rfl
      | ⟨2, _⟩ => rfl
      | ⟨3, _⟩ => exact Subsingleton.elim (α := Fin 1) _ _
    have hv : res_main_call2_v5 V0 x = BitVec.ofNat 32 (pick V0 (x 0) (x 1) (x 2)).val :=
      (congrArg (res_main_call2_v5 V0) hx).trans (edge_start V0 (x 0) (x 1) (x 2))
    rw [hv]
    have hlt := (pick V0 (x 0) (x 1) (x 2)).isLt
    generalize (pick V0 (x 0) (x 1) (x 2)).val = n at hlt
    interval_cases n <;> decide
  classical
  induction S using Finset.induction_on with
  | empty => rfl
  | insert a S ha ih => rw [Finset.fold_insert ha, ih, e]; rfl

end Cert.ReferenceIdeal.Value

end
-- ==== Proof.ReferenceIdeal.Result.lean ====
/- What the reference leaves in its result: the layer's value. -/
module

public import proofs.«01_k».proof.Proof.ReferenceIdeal.Neighbours

@[expose] public section

set_option maxRecDepth 16384

noncomputable section

namespace Cert.ReferenceIdeal.Value

open Idealize.ShloMosaic Idealize.ShloMosaic.TcCoe Cert.ReferenceIdeal Cert.ReferenceIdeal.Gen Fusion

variable (V0 : Valuation τ sig (Elt Ideal))

/-- The sum over the neighbours and the node's own features. -/
theorem v121_apply (h : (inputs V0).Good) (s : Fin 32) (i : Fin 256) (l : Fin 128) :
    res_main_v121 V0 (ix3 s i l) = (inputs V0).residual s ((inputs V0).near s i) i l := by
  have e : (inputs V0).residual s ((inputs V0).near s i) i l =
      ∑ r : Fin 17, ((inputs V0).fe s (pick V0 s i r) l * (inputs V0).rel s i (pick V0 s i r) l
        + (inputs V0).edge s i (pick V0 s i r) * (inputs V0).ef s (pick V0 s i r) l) + (inputs V0).fe s i l + (inputs V0).ef s i l := by
    unfold Inputs.residual
    rw [← sum_pick V0 s i fun j => (inputs V0).fe s j l * (inputs V0).rel s i j l + (inputs V0).edge s i j * (inputs V0).ef s j l]
  rw [e]
  unfold res_main_v121
  pointwise [dot_S32x256x17x64_S64x128_S32x256x17x128_3_0_012_1_n_n]
  refine congrArg₂ (· + ·) (congrArg₂ (· + ·) (Finset.sum_congr rfl fun r _ => ?_) (v14_apply V0 s i l)) (v29_apply V0 s i l)
  refine congrArg₂ (· + ·) (congrArg₂ (· * ·) ((row_apply V0 _ s i r l).trans (v14_apply V0 s _ l)) ?_)
    (congrArg₂ (· * ·) ?_ ((row_apply V0 _ s i r l).trans (v29_apply V0 s _ l)))
  · simp only [v76_apply]
    rfl
  · rw [mask_apply]
    exact weight_apply V0 h s i r

/-- The mean of a row. -/
theorem v125_apply (h : (inputs V0).Good) (s : Fin 32) (i : Fin 256) :
    res_main_v125 V0 (ix3 s i 0) = mean ((inputs V0).residual s ((inputs V0).near s i) i) := by
  unfold res_main_v125
  pointwise
  simp only [v121_apply V0 h]
  rfl

/-- A row less its mean. -/
theorem v127_apply (h : (inputs V0).Good) (s : Fin 32) (i : Fin 256) (l : Fin 128) :
    res_main_v127 V0 (ix3 s i l) = (inputs V0).residual s ((inputs V0).near s i) i l - mean ((inputs V0).residual s ((inputs V0).near s i) i) := by
  unfold res_main_v127
  pointwise
  rw [v121_apply V0 h, v125_apply V0 h]

/-- The result is the layer's value. -/
theorem result_apply (h : (inputs V0).Good) (s : Fin 32) (i : Fin 256) (l : Fin 128) :
    (addf (mulf (Host.divf (subf (res_main_v121 V0) (broadcastInDim S32x256x128 ![0, 1, 2] bcast_S32x256x1_S32x256x128_0_1_2 (res_main_v125 V0))) (broadcastInDim S32x256x128 ![0, 1, 2] bcast_S32x256x1_S32x256x128_0_1_2 (Host.sqrt (addf (Host.divf (broadcastInDim S32x256x1 ![0, 1] bcast_S32x256_S32x256x1_0_1 (Host.reduceAdd (mulf (res_main_v127 V0) (res_main_v127 V0)) (constant S_ .f32 0x00000000#32) reducesTo_S32x256x128_S32x256_d2 h_S_)) (broadcastInDim S32x256x1 ![] bcast_S_S32x256x1 (constant S_ .f32 0x43000000#32))) (broadcastInDim S32x256x1 ![] bcast_S_S32x256x1 (constant S_ .f32 0x3727C5AC#32)))))) (broadcastInDim S32x256x128 ![0, 1, 2] bcast_S1x1x128_S32x256x128_0_1_2 (broadcastInDim S1x1x128 ![2] bcast_S128_S1x1x128_2 (V0 (Proc.devRef .tc main_arg17))))) (broadcastInDim S32x256x128 ![0, 1, 2] bcast_S1x1x128_S32x256x128_0_1_2 (broadcastInDim S1x1x128 ![2] bcast_S128_S1x1x128_2 (V0 (Proc.devRef .tc main_arg18)))) : S32x256x128.Idx → EReal) (ix3 s i l)
      = (inputs V0).value s i l := by
  pointwise
  simp only [v121_apply V0 h, v125_apply V0 h, v127_apply V0 h]
  rfl

end Cert.ReferenceIdeal.Value

end
-- ==== Proof.Equation.lean ====
/- The equation: under the condition on the inputs, the array the kernel fills is the array the reference leaves. -/
module

public import proofs.«01_k».proof.Proof.Math.Condition
public import proofs.«01_k».proof.Proof.KernelIdeal.ArrayValue
public import proofs.«01_k».proof.Proof.ReferenceIdeal.Result

@[expose] public section

set_option maxRecDepth 16384

noncomputable section

namespace Cert.Equation

open Idealize.ShloMosaic Idealize.ShloMosaic.TcCoe Idealize.ShloMosaic.StableHlo Idealize.SL.Sem Fusion

/-- Inputs with real coordinates, real weights of the differences, small relations and few lower-numbered nodes at one place are good. -/
theorem good_of (A : Inputs) (hc : ∀ s i k, ∃ r : ℝ, A.coord s i k = (r : EReal))
    (hw : ∀ k (x : Fin 3), ∃ r : ℝ, A.wr1 k ⟨6 + x.val, by omega⟩ = (r : EReal)) (hr : ∀ i j, (A.relation i j).toNat < 16)
    (hf : ∀ s i, (Finset.univ.filter fun j => j < i ∧ A.dist s i j = 0).card < 17) : A.Good := by
  choose u hu using hc
  choose v hv using hw
  refine ⟨⟨u, hu⟩, ⟨v, hv⟩, hr, fun s i => ?_⟩
  have e : (Finset.univ.filter fun j => j < i ∧ A.dist s i j ≤ 0) = Finset.univ.filter fun j => j < i ∧ A.dist s i j = 0 := by
    refine Finset.filter_congr fun j _ => and_congr_right fun _ => ⟨fun h => le_antisymm h ?_, fun h => h.le⟩
    unfold Inputs.dist
    simp only [hu, Fin.sum_univ_three, ← EReal.coe_mul, ← EReal.coe_add, ← EReal.coe_sub]
    exact_mod_cast add_nonneg (add_nonneg (mul_self_nonneg _) (mul_self_nonneg _)) (mul_self_nonneg _)
  rw [e]
  exact hf s i

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- The condition on the inputs makes them good. -/
theorem good (h : Pre_KernelIdeal_graph_inputs m) (c : Dev KernelIdeal.nD) : (KernelIdeal.Value.inputs m c).Good := by
  obtain ⟨h1, h2, h3, h4, h5⟩ := h c
  obtain ⟨hc, hw, hr, hf⟩ := Pre_graph_inputs.fn_apply _ _ _ _ _ _ _ _ _ _ _ _ _ _ _ _ _ _ _ h1 h2 h3 h4 h5
  exact good_of _ hc hw hr hf

/-- Two memories that agree on the arguments hold the same inputs. -/
theorem inputs_eq (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (h9 : m' ((c.tc : Thread ReferenceIdeal.nD ReferenceIdeal.τ).loc ReferenceIdeal.main_arg9) = m ((c.tc : Thread KernelIdeal.nD KernelIdeal.τ).loc KernelIdeal.main_arg9))
    (h10 : m' ((c.tc : Thread ReferenceIdeal.nD ReferenceIdeal.τ).loc ReferenceIdeal.main_arg10) = m ((c.tc : Thread KernelIdeal.nD KernelIdeal.τ).loc KernelIdeal.main_arg10))
    (h11 : m' ((c.tc : Thread ReferenceIdeal.nD ReferenceIdeal.τ).loc ReferenceIdeal.main_arg11) = m ((c.tc : Thread KernelIdeal.nD KernelIdeal.τ).loc KernelIdeal.main_arg11))
    (h12 : m' ((c.tc : Thread ReferenceIdeal.nD ReferenceIdeal.τ).loc ReferenceIdeal.main_arg12) = m ((c.tc : Thread KernelIdeal.nD KernelIdeal.τ).loc KernelIdeal.main_arg12))
    (h13 : m' ((c.tc : Thread ReferenceIdeal.nD ReferenceIdeal.τ).loc ReferenceIdeal.main_arg13) = m ((c.tc : Thread KernelIdeal.nD KernelIdeal.τ).loc KernelIdeal.main_arg13))
    (h14 : m' ((c.tc : Thread ReferenceIdeal.nD ReferenceIdeal.τ).loc ReferenceIdeal.main_arg14) = m ((c.tc : Thread KernelIdeal.nD KernelIdeal.τ).loc KernelIdeal.main_arg14))
    (h15 : m' ((c.tc : Thread ReferenceIdeal.nD ReferenceIdeal.τ).loc ReferenceIdeal.main_arg15) = m ((c.tc : Thread KernelIdeal.nD KernelIdeal.τ).loc KernelIdeal.main_arg15))
    (h16 : m' ((c.tc : Thread ReferenceIdeal.nD ReferenceIdeal.τ).loc ReferenceIdeal.main_arg16) = m ((c.tc : Thread KernelIdeal.nD KernelIdeal.τ).loc KernelIdeal.main_arg16))
    (h17 : m' ((c.tc : Thread ReferenceIdeal.nD ReferenceIdeal.τ).loc ReferenceIdeal.main_arg17) = m ((c.tc : Thread KernelIdeal.nD KernelIdeal.τ).loc KernelIdeal.main_arg17))
    (h18 : m' ((c.tc : Thread ReferenceIdeal.nD ReferenceIdeal.τ).loc ReferenceIdeal.main_arg18) = m ((c.tc : Thread KernelIdeal.nD KernelIdeal.τ).loc KernelIdeal.main_arg18)) :
    ReferenceIdeal.Value.inputs (launchContents m' c) = KernelIdeal.Value.inputs m c := by
  unfold ReferenceIdeal.Value.inputs KernelIdeal.Value.inputs
  rw [Inputs.mk.injEq]
  exact ⟨funext fun x => funext fun y => funext fun z => congrFun h0 (ix3 x y z),
    funext fun x => funext fun y => funext fun z => congrFun h1 (ix3 x y z),
    funext fun x => funext fun y => congrFun h2 (ix2 x y),
    funext fun x => funext fun y => congrFun h3 (ix2 x y),
    funext fun x => funext fun y => funext fun z => congrFun h4 (ix3 x y z),
    funext fun x => funext fun y => congrFun h5 (ix2 x y),
    funext fun x => congrFun h6 (ix1 x),
    funext fun x => funext fun y => congrFun h7 (ix2 x y),
    funext fun x => congrFun h8 (ix1 x),
    funext fun x => funext fun y => congrFun h9 (ix2 x y),
    funext fun x => congrFun h10 (ix1 x),
    funext fun x => funext fun y => congrFun h11 (ix2 x y),
    funext fun x => congrFun h12 (ix1 x),
    funext fun x => funext fun y => congrFun h13 (ix2 x y),
    funext fun x => congrFun h14 (ix1 x),
    funext fun x => funext fun y => congrFun h15 (ix2 x y),
    funext fun x => congrFun h16 (ix1 x),
    funext fun x => congrFun h17 (ix1 x),
    funext fun x => congrFun h18 (ix1 x)⟩

/-- The kernel and the reference, started from the same good inputs, leave the same array and change no argument. -/
theorem algebraic : algebraic_KernelIdeal_ReferenceIdeal_pre_graph_inputs (hKernelIdeal := KernelIdeal.Gen.facts)
    (hReferenceIdeal := ReferenceIdeal.Gen.facts) (hPre_graph_inputs := Pre_graph_inputs.shapes) := by
  intro m g m' g' hp hm
  refine ⟨fun c => (KernelIdeal.Gen.dats m 0 c).arrAt 22 KernelIdeal.cfg0.N, KernelIdeal.Value.run_blocks m g, ?_⟩
  refine (θ_run ReferenceIdeal.defs _ _).mono (fun r h c => ⟨(h c).1.trans ?_, (h c).2⟩) (ReferenceIdeal.Value.run m' g')
  have hg := good m hp c
  obtain ⟨h0, h1, h2, h3, h4, h5, h6, h7, h8, h9, h10, h11, h12, h13, h14, h15, h16, h17, h18⟩ := hm c
  have e := inputs_eq m m' c h0 h1 h2 h3 h4 h5 h6 h7 h8 h9 h10 h11 h12 h13 h14 h15 h16 h17 h18
  have hg' : (ReferenceIdeal.Value.inputs (launchContents m' c)).Good := e ▸ hg
  funext j
  have hj : j = ix3 (j 0) (j 1) (j 2) := by
    funext a
    fin_cases a <;> rfl
  rw [hj]
  exact (ReferenceIdeal.Value.result_apply (launchContents m' c) hg' (j 0) (j 1) (j 2)).trans
    ((congrArg (fun A : Inputs => A.value (j 0) (j 1) (j 2)) e).trans (KernelIdeal.Value.array_apply hg (j 0) (j 1) (j 2)).symm)

end Cert.Equation

end
-- ==== Proof.lean ====
/- The claims about the kernel, its idealization and the reference, assembled. -/
module

public import proofs.«01_k».proof.Defs
public import proofs.«01_k».proof.Proof.Kernel.Body
public import proofs.«01_k».proof.Proof.KernelIdeal.Blocks
public import proofs.«01_k».proof.Proof.Equation
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- Every run of the kernel ends, with its nineteen arguments unchanged and every counter at zero. -/
theorem frame_Kernel : Cert.quiescent_Kernel (hKernel := Cert.Kernel.Gen.facts) :=
  fun m ρ _ => Cert.Kernel.Gen.frame m ρ

/-- The same for the idealized kernel. -/
theorem frame_KernelIdeal : Cert.quiescent_KernelIdeal (hKernelIdeal := Cert.KernelIdeal.Gen.facts) :=
  fun m ρ _ => Cert.KernelIdeal.Gen.frame m ρ

/-- The same for the reference, which has no semaphores at all. -/
theorem frame_ReferenceIdeal : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run m ρ)

/-- The idealized kernel's runs, under the condition on the inputs. -/
theorem frame_KernelIdeal_pre : Cert.quiescent_KernelIdeal_pre_graph_inputs (hKernelIdeal := Cert.KernelIdeal.Gen.facts)
    (hPre_graph_inputs := Cert.Pre_graph_inputs.shapes) :=
  fun m ρ _ => Cert.KernelIdeal.Gen.frame m ρ

/-- The reference's runs, under the condition on the inputs. -/
theorem frame_ReferenceIdeal_pre : Cert.quiescent_ReferenceIdeal_pre_graph_inputs (hReferenceIdeal := Cert.ReferenceIdeal.Gen.facts)
    (hPre_graph_inputs := Cert.Pre_graph_inputs.shapes) :=
  fun m ρ _ => frame_ReferenceIdeal m ρ trivial

/-- Everything claimed: every run ends as it should, idealizing changes nothing but the arithmetic, and the idealized kernel
    leaves the array that the reference leaves. -/
theorem claim : Cert.Claim := ⟨Cert.Kernel.Gen.facts, Cert.KernelIdeal.Gen.facts, Cert.ReferenceIdeal.Gen.facts, Cert.Pre_graph_inputs.shapes,
  frame_Kernel, frame_KernelIdeal, frame_KernelIdeal_pre, frame_ReferenceIdeal, frame_ReferenceIdeal_pre, trivial, Cert.Equation.algebraic⟩

end Cert.Proof

end
